-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  IdealRules.named_const.Statement Cert.KernelIdeal.κ "inv_n" .f32 0x38D1B717#32 ((10000⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v345) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S10000x128 : Shape := ⟨2, ![10000, 128]⟩
abbrev S2x320000 : Shape := ⟨2, ![2, 320000]⟩
abbrev S320000 : Shape := ⟨1, ![320000]⟩
abbrev S4x128x512 : Shape := ⟨3, ![4, 128, 512]⟩
abbrev S4x512 : Shape := ⟨2, ![4, 512]⟩
abbrev S4x512x512 : Shape := ⟨3, ![4, 512, 512]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  bcast_S_S4x128x512 : S_.BroadcastsInDim S4x128x512 (![] : Fin 0 → Fin S4x128x512.rank)
  bcast_S_S4x512 : S_.BroadcastsInDim S4x512 (![] : Fin 0 → Fin S4x512.rank)
  bcast_S_S4x512x512 : S_.BroadcastsInDim S4x512x512 (![] : Fin 0 → Fin S4x512x512.rank)
  bcast_S_S2048x512 : S_.BroadcastsInDim S2048x512 (![] : Fin 0 → Fin S2048x512.rank)

variable [Facts]

def fn_part2 {F : FTy → Type} [FloatOps F] (main_arg15 : FVec F S4x512 .f32) (main_arg18 : FVec F S4x512 .f32) (main_arg19 : FVec F S4x512 .f32) (main_v2 : IVec S10000x128 1) (main_v5 : IVec S10000x128 1) (main_v8 : IVec S10000x128 1) (main_v11 : IVec S10000x128 1) (main_v14 : IVec S4x128x512 1) (main_v17 : IVec S4x512 1) (main_v20 : IVec S4x512 1) (main_v23 : IVec S4x512x512 1) (main_v26 : IVec S4x512 1) (main_v29 : IVec S4x512 1) (main_v32 : IVec S4x512x512 1) (main_v35 : IVec S2048x512 1) : IVec S10000x128 1 × IVec S10000x128 1 × IVec S10000x128 1 × IVec S10000x128 1 × IVec S4x128x512 1 × IVec S4x512 1 × IVec S4x512 1 × IVec S4x512x512 1 × IVec S4x512 1 × IVec S4x512 1 × IVec S4x512x512 1 × IVec S2048x512 1 × IVec S4x512 1 × IVec S4x512 1 × IVec S4x512 1 :=
  let main_cst_11 : FVec F S_ .f32 := constant S_ .f32 0x7F800000#32
  let main_v36 : FVec F S4x512 .f32 := broadcastInDim S4x512 ![] bcast_S_S4x512 main_cst_11
  let main_v37 : IVec S4x512 1 := cmpf .olt main_arg15 main_v36
  let main_cst_12 : FVec F S_ .f32 := constant S_ .f32 0x7F800000#32
  let main_v38 : FVec F S4x512 .f32 := broadcastInDim S4x512 ![] bcast_S_S4x512 main_cst_12
  let main_v39 : IVec S4x512 1 := cmpf .olt main_arg19 main_v38
  let main_cst_13 : FVec F S_ .f32 := constant S_ .f32 0x00000000#32
  let main_v40 : FVec F S4x512 .f32 := broadcastInDim S4x512 ![] bcast_S_S4x512 main_cst_13
  let main_v41 : IVec S4x512 1 := cmpf .ogt main_arg18 main_v40
  (main_v2, main_v5, main_v8, main_v11, main_v14, main_v17, main_v20, main_v23, main_v26, main_v29, main_v32, main_v35, main_v37, main_v39, main_v41)

def fn_part1 {F : FTy → Type} [FloatOps F] (main_arg14 : FVec F S4x512 .f32) (main_arg15 : FVec F S4x512 .f32) (main_arg16 : FVec F S4x512x512 .f32) (main_arg17 : FVec F S4x512 .f32) (main_arg18 : FVec F S4x512 .f32) (main_arg19 : FVec F S4x512 .f32) (main_arg20 : FVec F S4x512x512 .f32) (main_arg22 : FVec F S2048x512 .f32) (main_v2 : IVec S10000x128 1) (main_v5 : IVec S10000x128 1) (main_v8 : IVec S10000x128 1) (main_v11 : IVec S10000x128 1) (main_v14 : IVec S4x128x512 1) (main_v17 : IVec S4x512 1) : IVec S10000x128 1 × IVec S10000x128 1 × IVec S10000x128 1 × IVec S10000x128 1 × IVec S4x128x512 1 × IVec S4x512 1 × IVec S4x512 1 × IVec S4x512x512 1 × IVec S4x512 1 × IVec S4x512 1 × IVec S4x512x512 1 × IVec S2048x512 1 × IVec S4x512 1 × IVec S4x512 1 × IVec S4x512 1 :=
  let main_v18 : FVec F S4x512 .f32 := Host.absf main_arg14
  let main_cst_5 : FVec F S_ .f32 := constant S_ .f32 0x7F800000#32
  let main_v19 : FVec F S4x512 .f32 := broadcastInDim S4x512 ![] bcast_S_S4x512 main_cst_5
  let main_v20 : IVec S4x512 1 := cmpf .olt main_v18 main_v19
  let main_v21 : FVec F S4x512x512 .f32 := Host.absf main_arg16
  let main_cst_6 : FVec F S_ .f32 := constant S_ .f32 0x7F800000#32
  let main_v22 : FVec F S4x512x512 .f32 := broadcastInDim S4x512x512 ![] bcast_S_S4x512x512 main_cst_6
  let main_v23 : IVec S4x512x512 1 := cmpf .olt main_v21 main_v22
  let main_v24 : FVec F S4x512 .f32 := Host.absf main_arg17
  let main_cst_7 : FVec F S_ .f32 := constant S_ .f32 0x7F800000#32
  let main_v25 : FVec F S4x512 .f32 := broadcastInDim S4x512 ![] bcast_S_S4x512 main_cst_7
  let main_v26 : IVec S4x512 1 := cmpf .olt main_v24 main_v25
  let main_v27 : FVec F S4x512 .f32 := Host.absf main_arg18
  let main_cst_8 : FVec F S_ .f32 := constant S_ .f32 0x7F800000#32
  let main_v28 : FVec F S4x512 .f32 := broadcastInDim S4x512 ![] bcast_S_S4x512 main_cst_8
  let main_v29 : IVec S4x512 1 := cmpf .olt main_v27 main_v28
  let main_v30 : FVec F S4x512x512 .f32 := Host.absf main_arg20
  let main_cst_9 : FVec F S_ .f32 := constant S_ .f32 0x7F800000#32
  let main_v31 : FVec F S4x512x512 .f32 := broadcastInDim S4x512x512 ![] bcast_S_S4x512x512 main_cst_9
  let main_v32 : IVec S4x512x512 1 := cmpf .olt main_v30 main_v31
  let main_v33 : FVec F S2048x512 .f32 := Host.absf main_arg22
  let main_cst_10 : FVec F S_ .f32 := constant S_ .f32 0x7F800000#32
  let main_v34 : FVec F S2048x512 .f32 := broadcastInDim S2048x512 ![] bcast_S_S2048x512 main_cst_10
  let main_v35 : IVec S2048x512 1 := cmpf .olt main_v33 main_v34
  fn_part2 (F := F) main_arg15 main_arg18 main_arg19 main_v2 main_v5 main_v8 main_v11 main_v14 main_v17 main_v20 main_v23 main_v26 main_v29 main_v32 main_v35

def fn {F : FTy → Type} [FloatOps F] (main_arg0 : FVec F S10000x128 .f32) (main_arg1 : FVec F S10000x128 .f32) (main_arg2 : FVec F S10000x128 .f32) (main_arg3 : FVec F S10000x128 .f32) (main_arg4 : IVec S2x320000 32) (main_arg5 : IVec S2x320000 32) (main_arg6 : IVec S2x320000 32) (main_arg7 : IVec S2x320000 32) (main_arg8 : FVec F S320000 .f32) (main_arg9 : FVec F S320000 .f32) (main_arg10 : FVec F S320000 .f32) (main_arg11 : FVec F S320000 .f32) (main_arg12 : FVec F S4x128x512 .f32) (main_arg13 : FVec F S4x512 .f32) (main_arg14 : FVec F S4x512 .f32) (main_arg15 : FVec F S4x512 .f32) (main_arg16 : FVec F S4x512x512 .f32) (main_arg17 : FVec F S4x512 .f32) (main_arg18 : FVec F S4x512 .f32) (main_arg19 : FVec F S4x512 .f32) (main_arg20 : FVec F S4x512x512 .f32) (main_arg21 : FVec F S4x512 .f32) (main_arg22 : FVec F S2048x512 .f32) (main_arg23 : FVec F S512 .f32) (main_arg24 : FVec F S512x128 .f32) (main_arg25 : FVec F S128 .f32) : IVec S10000x128 1 × IVec S10000x128 1 × IVec S10000x128 1 × IVec S10000x128 1 × IVec S4x128x512 1 × IVec S4x512 1 × IVec S4x512 1 × IVec S4x512x512 1 × IVec S4x512 1 × IVec S4x512 1 × IVec S4x512x512 1 × IVec S2048x512 1 × IVec S4x512 1 × IVec S4x512 1 × IVec S4x512 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x128 .f32 := Host.absf main_arg1
  let main_cst_0 : FVec F S_ .f32 := constant S_ .f32 0x7F800000#32
  let main_v4 : FVec F S10000x128 .f32 := broadcastInDim S10000x128 ![] bcast_S_S10000x128 main_cst_0
  let main_v5 : IVec S10000x128 1 := cmpf .olt main_v3 main_v4
  let main_v6 : FVec F S10000x128 .f32 := Host.absf main_arg2
  let main_cst_1 : FVec F S_ .f32 := constant S_ .f32 0x7F800000#32
  let main_v7 : FVec F S10000x128 .f32 := broadcastInDim S10000x128 ![] bcast_S_S10000x128 main_cst_1
  let main_v8 : IVec S10000x128 1 := cmpf .olt main_v6 main_v7
  let main_v9 : FVec F S10000x128 .f32 := Host.absf main_arg3
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_v12 : FVec F S4x128x512 .f32 := Host.absf main_arg12
  let main_cst_3 : FVec F S_ .f32 := constant S_ .f32 0x7F800000#32
  let main_v13 : FVec F S4x128x512 .f32 := broadcastInDim S4x128x512 ![] bcast_S_S4x128x512 main_cst_3
  let main_v14 : IVec S4x128x512 1 := cmpf .olt main_v12 main_v13
  let main_v15 : FVec F S4x512 .f32 := Host.absf main_arg13
  let main_cst_4 : FVec F S_ .f32 := constant S_ .f32 0x7F800000#32
  let main_v16 : FVec F S4x512 .f32 := broadcastInDim S4x512 ![] bcast_S_S4x512 main_cst_4
  let main_v17 : IVec S4x512 1 := cmpf .olt main_v15 main_v16
  fn_part1 (F := F) main_arg14 main_arg15 main_arg16 main_arg17 main_arg18 main_arg19 main_arg20 main_arg22 main_v2 main_v5 main_v8 main_v11 main_v14 main_v17
-- ==== Kernel.lean ====
abbrev S10000x128 : Shape := ⟨2, ![10000, 128]⟩
abbrev S2x320000 : Shape := ⟨2, ![2, 320000]⟩
abbrev S320000 : Shape := ⟨1, ![320000]⟩
abbrev S4x128x512 : Shape := ⟨3, ![4, 128, 512]⟩
abbrev S4x512 : Shape := ⟨2, ![4, 512]⟩
abbrev S4x512x512 : Shape := ⟨3, ![4, 512, 512]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S4x1x512 : Shape := ⟨3, ![4, 1, 512]⟩
abbrev S1x512 : Shape := ⟨2, ![1, 512]⟩
abbrev S1x128 : Shape := ⟨2, ![1, 128]⟩
abbrev S1000x128 : Shape := ⟨2, ![1000, 128]⟩
abbrev S4x1x128 : Shape := ⟨3, ![4, 1, 128]⟩
abbrev S4x128x128 : Shape := ⟨3, ![4, 128, 128]⟩
abbrev S4x10x1000x512 : Shape := ⟨4, ![4, 10, 1000, 512]⟩
abbrev S4x2x512 : Shape := ⟨3, ![4, 2, 512]⟩
abbrev S128x128 : Shape := ⟨2, ![128, 128]⟩
abbrev S1x1x128 : Shape := ⟨3, ![1, 1, 128]⟩
abbrev S1x128x128 : Shape := ⟨3, ![1, 128, 128]⟩
abbrev S1x128x512 : Shape := ⟨3, ![1, 128, 512]⟩
abbrev S128x512 : Shape := ⟨2, ![128, 512]⟩
abbrev S1x1x512 : Shape := ⟨3, ![1, 1, 512]⟩
abbrev S1000x512 : Shape := ⟨2, ![1000, 512]⟩
abbrev S1x512x512 : Shape := ⟨3, ![1, 512, 512]⟩
abbrev S512x512 : Shape := ⟨2, ![512, 512]⟩
abbrev S1x1x1000x512 : Shape := ⟨4, ![1, 1, 1000, 512]⟩
abbrev S2x512 : Shape := ⟨2, ![2, 512]⟩
abbrev S1x2x512 : Shape := ⟨3, ![1, 2, 512]⟩
abbrev S512x1 : Shape := ⟨2, ![512, 1]⟩
abbrev S1000x2048 : Shape := ⟨2, ![1000, 2048]⟩

abbrev nBuf : Space → Nat
  | .hbm => 39
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S2x320000, .i32⟩
  | .hbm, ⟨5, _⟩ => ⟨S2x320000, .i32⟩
  | .hbm, ⟨6, _⟩ => ⟨S2x320000, .i32⟩
  | .hbm, ⟨7, _⟩ => ⟨S2x320000, .i32⟩
  | .hbm, ⟨8, _⟩ => ⟨S320000, .f32⟩
  | .hbm, ⟨9, _⟩ => ⟨S320000, .f32⟩
  | .hbm, ⟨10, _⟩ => ⟨S320000, .f32⟩
  | .hbm, ⟨11, _⟩ => ⟨S320000, .f32⟩
  | .hbm, ⟨12, _⟩ => ⟨S4x128x512, .f32⟩
  | .hbm, ⟨13, _⟩ => ⟨S4x512, .f32⟩
  | .hbm, ⟨14, _⟩ => ⟨S4x512, .f32⟩
  | .hbm, ⟨15, _⟩ => ⟨S4x512, .f32⟩
  | .hbm, ⟨16, _⟩ => ⟨S4x512x512, .f32⟩
  | .hbm, ⟨17, _⟩ => ⟨S4x512, .f32⟩
  | .hbm, ⟨18, _⟩ => ⟨S4x512, .f32⟩
  | .hbm, ⟨19, _⟩ => ⟨S4x512, .f32⟩
  | .hbm, ⟨20, _⟩ => ⟨S4x512x512, .f32⟩
  | .hbm, ⟨21, _⟩ => ⟨S4x512, .f32⟩
  | .hbm, ⟨22, _⟩ => ⟨S2048x512, .f32⟩
  | .hbm, ⟨23, _⟩ => ⟨S512, .f32⟩
  | .hbm, ⟨24, _⟩ => ⟨S512x128, .f32⟩
  | .hbm, ⟨25, _⟩ => ⟨S128, .f32⟩
  | .hbm, ⟨26, _⟩ => ⟨S4x128x512, .bf16⟩
  | .hbm, ⟨27, _⟩ => ⟨S4x1x512, .f32⟩
  | .hbm, ⟨28, _⟩ => ⟨S4x1x512, .f32⟩
  | .hbm, ⟨29, _⟩ => ⟨S4x512x512, .bf16⟩
  | .hbm, ⟨30, _⟩ => ⟨S4x1x512, .f32⟩
  | .hbm, ⟨31, _⟩ => ⟨S4x1x512, .f32⟩
  | .hbm, ⟨32, _⟩ => ⟨S4x512x512, .bf16⟩
  | .hbm, ⟨33, _⟩ => ⟨S2048x512, .bf16⟩
  | .hbm, ⟨34, _⟩ => ⟨S4x1x512, .f32⟩
  | .hbm, ⟨35, _⟩ => ⟨S1x512, .f32⟩
  | .hbm, ⟨36, _⟩ => ⟨S512x128, .bf16⟩
  | .hbm, ⟨37, _⟩ => ⟨S1x128, .f32⟩
  | .hbm, ⟨38, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S4x128x512, .bf16⟩
  | .local _ .vmem, ⟨9, _⟩ => ⟨S4x1x512, .f32⟩
  | .local _ .vmem, ⟨10, _⟩ => ⟨S4x1x512, .f32⟩
  | .local _ .vmem, ⟨11, _⟩ => ⟨S4x512x512, .bf16⟩
  | .local _ .vmem, ⟨12, _⟩ => ⟨S4x1x512, .f32⟩
  | .local _ .vmem, ⟨13, _⟩ => ⟨S4x1x512, .f32⟩
  | .local _ .vmem, ⟨14, _⟩ => ⟨S4x512x512, .bf16⟩
  | .local _ .vmem, ⟨15, _⟩ => ⟨S2048x512, .bf16⟩
  | .local _ .vmem, ⟨16, _⟩ => ⟨S4x1x512, .f32⟩
  | .local _ .vmem, ⟨17, _⟩ => ⟨S1x512, .f32⟩
  | .local _ .vmem, ⟨18, _⟩ => ⟨S512x128, .bf16⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S4x1x128, .f32⟩
  | .local _ .vmem, ⟨23, _⟩ => ⟨S4x128x128, .f32⟩
  | .local _ .vmem, ⟨24, _⟩ => ⟨S4x128x512, .bf16⟩
  | .local _ .vmem, ⟨25, _⟩ => ⟨S4x1x512, .bf16⟩
  | .local _ .vmem, ⟨26, _⟩ => ⟨S4x10x1000x512, .bf16⟩
  | .local _ .vmem, ⟨27, _⟩ => ⟨S4x2x512, .f32⟩
  | .local _ .vmem, ⟨28, _⟩ => ⟨S2048x512, .bf16⟩
  | .local _ .vmem, ⟨29, _⟩ => ⟨S1x512, .bf16⟩
  | .local _ .vmem, ⟨30, _⟩ => ⟨S4x1x512, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![30], ![false]⟩

def k0_cond5 (i : grid0.Coords) : BitVec 1 :=
  let arg0 : BitVec 32 := BitVec.ofNat 32 (i 0).val
  let c10_i32_2 : BitVec 32 := 10#32
  let v6 : BitVec 1 := Scalar.cmpi .sge arg0 c10_i32_2
  let c20_i32 : BitVec 32 := 20#32
  let v7 : BitVec 1 := Scalar.cmpi .slt arg0 c20_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off1 (i : grid0.Coords) : Fin 4 → Nat :=
  let c0_21 : Index := 0#32
  let arg0 : BitVec 32 := BitVec.ofNat 32 (i 0).val
  let c10_i32_8 : BitVec 32 := 10#32
  let v17 : BitVec 32 := Scalar.subi arg0 c10_i32_8
  let v34 : Index := Scalar.indexCast v17
  let c0_22 : Index := 0#32
  let c0_23 : Index := 0#32
  ![0, v34.toNat, 0, 0]
def k0_off2 (i : grid0.Coords) : Fin 4 → Nat :=
  let c1_39 : Index := 1#32
  let arg0 : BitVec 32 := BitVec.ofNat 32 (i 0).val
  let c10_i32_8 : BitVec 32 := 10#32
  let v17 : BitVec 32 := Scalar.subi arg0 c10_i32_8
  let v60 : Index := Scalar.indexCast v17
  let c0_40 : Index := 0#32
  let c0_41 : Index := 0#32
  ![1, v60.toNat, 0, 0]
def k0_off3 (i : grid0.Coords) : Fin 4 → Nat :=
  let c2_57 : Index := 2#32
  let arg0 : BitVec 32 := BitVec.ofNat 32 (i 0).val
  let c10_i32_8 : BitVec 32 := 10#32
  let v17 : BitVec 32 := Scalar.subi arg0 c10_i32_8
  let v86 : Index := Scalar.indexCast v17
  let c0_58 : Index := 0#32
  let c0_59 : Index := 0#32
  ![2, v86.toNat, 0, 0]
def k0_off4 (i : grid0.Coords) : Fin 4 → Nat :=
  let c3_75 : Index := 3#32
  let arg0 : BitVec 32 := BitVec.ofNat 32 (i 0).val
  let c10_i32_8 : BitVec 32 := 10#32
  let v17 : BitVec 32 := Scalar.subi arg0 c10_i32_8
  let v112 : Index := Scalar.indexCast v17
  let c0_76 : Index := 0#32
  let c0_77 : Index := 0#32
  ![3, v112.toNat, 0, 0]
def k0_cond7 (i : grid0.Coords) : BitVec 1 :=
  let arg0 : BitVec 32 := BitVec.ofNat 32 (i 0).val
  let c20_i32_6 : BitVec 32 := 20#32
  let v14 : BitVec 1 := Scalar.cmpi .sge arg0 c20_i32_6
  let v15 : BitVec 32 := Scalar.extui v14
  let c0_i32_7 : BitVec 32 := 0#32
  let v16 : BitVec 1 := Scalar.cmpi .ne v15 c0_i32_7
  v16

def k0_off5 (i : grid0.Coords) : Fin 4 → Nat :=
  let c0 : Index := 0#32
  let arg0 : BitVec 32 := BitVec.ofNat 32 (i 0).val
  let c20_i32_8 : BitVec 32 := 20#32
  let v17 : BitVec 32 := Scalar.subi arg0 c20_i32_8
  let v18 : Index := Scalar.indexCast v17
  let c0_9 : Index := 0#32
  let c0_10 : Index := 0#32
  ![0, v18.toNat, 0, 0]
def k0_off6 (i : grid0.Coords) : Fin 4 → Nat :=
  let c1 : Index := 1#32
  let arg0 : BitVec 32 := BitVec.ofNat 32 (i 0).val
  let c20_i32_8 : BitVec 32 := 20#32
  let v17 : BitVec 32 := Scalar.subi arg0 c20_i32_8
  let v27 : Index := Scalar.indexCast v17
  let c0_14 : Index := 0#32
  let c0_15 : Index := 0#32
  ![1, v27.toNat, 0, 0]
def k0_off7 (i : grid0.Coords) : Fin 4 → Nat :=
  let c2 : Index := 2#32
  let arg0 : BitVec 32 := BitVec.ofNat 32 (i 0).val
  let c20_i32_8 : BitVec 32 := 20#32
  let v17 : BitVec 32 := Scalar.subi arg0 c20_i32_8
  let v36 : Index := Scalar.indexCast v17
  let c0_20 : Index := 0#32
  let c0_21 : Index := 0#32
  ![2, v36.toNat, 0, 0]
def k0_off8 (i : grid0.Coords) : Fin 4 → Nat :=
  let c3 : Index := 3#32
  let arg0 : BitVec 32 := BitVec.ofNat 32 (i 0).val
  let c20_i32_8 : BitVec 32 := 20#32
  let v17 : BitVec 32 := Scalar.subi arg0 c20_i32_8
  let v45 : Index := Scalar.indexCast v17
  let c0_26 : Index := 0#32
  let c0_27 : Index := 0#32
  ![3, v45.toNat, 0, 0]
def cc0_transform_0 (i : grid0.Coords) : Fin 2 → Nat :=
  let arg0 : BitVec 32 := BitVec.ofNat 32 (i 0).val
  let c10_i32 : BitVec 32 := 10#32
  let v0 : BitVec 1 := Scalar.cmpi .slt arg0 c10_i32
  let c20_i32 : BitVec 32 := 20#32
  let v1 : BitVec 1 := Scalar.cmpi .slt arg0 c20_i32
  let c10_i32_0 : BitVec 32 := 10#32
  let v2 : BitVec 32 := Scalar.subi arg0 c10_i32_0
  let c9_i32 : BitVec 32 := 9#32
  let v3 : BitVec 32 := Scalar.select v1 v2 c9_i32
  let v4 : BitVec 32 := Scalar.select v0 arg0 v3
  let c0_i32 : BitVec 32 := 0#32
  let c0_i32_1 : BitVec 32 := 0#32
  ![v4.toNat, c0_i32.toNat]

def cc0_transform_1 (i : grid0.Coords) : Fin 2 → Nat :=
  let arg0 : BitVec 32 := BitVec.ofNat 32 (i 0).val
  let c10_i32 : BitVec 32 := 10#32
  let v0 : BitVec 1 := Scalar.cmpi .slt arg0 c10_i32
  let c20_i32 : BitVec 32 := 20#32
  let v1 : BitVec 1 := Scalar.cmpi .slt arg0 c20_i32
  let c10_i32_0 : BitVec 32 := 10#32
  let v2 : BitVec 32 := Scalar.subi arg0 c10_i32_0
  let c9_i32 : BitVec 32 := 9#32
  let v3 : BitVec 32 := Scalar.select v1 v2 c9_i32
  let v4 : BitVec 32 := Scalar.select v0 arg0 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let c10_i32 : BitVec 32 := 10#32
  let v0 : BitVec 1 := Scalar.cmpi .slt arg0 c10_i32
  let c20_i32 : BitVec 32 := 20#32
  let v1 : BitVec 1 := Scalar.cmpi .slt arg0 c20_i32
  let c10_i32_0 : BitVec 32 := 10#32
  let v2 : BitVec 32 := Scalar.subi arg0 c10_i32_0
  let c9_i32 : BitVec 32 := 9#32
  let v3 : BitVec 32 := Scalar.select v1 v2 c9_i32
  let v4 : BitVec 32 := Scalar.select v0 arg0 v3
  let c0_i32 : BitVec 32 := 0#32
  let c0_i32_1 : BitVec 32 := 0#32
  ![v4.toNat, c0_i32.toNat]

def cc0_transform_3 (i : grid0.Coords) : Fin 2 → Nat :=
  let arg0 : BitVec 32 := BitVec.ofNat 32 (i 0).val
  let c10_i32 : BitVec 32 := 10#32
  let v0 : BitVec 1 := Scalar.cmpi .slt arg0 c10_i32
  let c20_i32 : BitVec 32 := 20#32
  let v1 : BitVec 1 := Scalar.cmpi .slt arg0 c20_i32
  let c10_i32_0 : BitVec 32 := 10#32
  let v2 : BitVec 32 := Scalar.subi arg0 c10_i32_0
  let c9_i32 : BitVec 32 := 9#32
  let v3 : BitVec 32 := Scalar.select v1 v2 c9_i32
  let v4 : BitVec 32 := Scalar.select v0 arg0 v3
  let c0_i32 : BitVec 32 := 0#32
  let c0_i32_1 : BitVec 32 := 0#32
  ![v4.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c20_i32 : BitVec 32 := 20#32
  let v0 : BitVec 1 := Scalar.cmpi .slt arg0 c20_i32
  let c20_i32_0 : BitVec 32 := 20#32
  let v1 : BitVec 32 := Scalar.subi arg0 c20_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "inv_n" => some ((10000⁻¹ : ℝ) : EReal)
  | _ => none
-- ==== ReferenceIdeal.lean ====
abbrev S10000x128 : Shape := ⟨2, ![10000, 128]⟩
abbrev S2x320000 : Shape := ⟨2, ![2, 320000]⟩
abbrev S320000 : Shape := ⟨1, ![320000]⟩
abbrev S4x128x512 : Shape := ⟨3, ![4, 128, 512]⟩
abbrev S4x512 : Shape := ⟨2, ![4, 512]⟩
abbrev S4x512x512 : Shape := ⟨3, ![4, 512, 512]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S1x128x512 : Shape := ⟨3, ![1, 128, 512]⟩
abbrev S128x512 : Shape := ⟨2, ![128, 512]⟩
abbrev S1x512 : Shape := ⟨2, ![1, 512]⟩
abbrev S1x512x512 : Shape := ⟨3, ![1, 512, 512]⟩
abbrev S512x512 : Shape := ⟨2, ![512, 512]⟩
abbrev S10000x512 : Shape := ⟨2, ![10000, 512]⟩
abbrev S_ : Shape := ⟨0, ![]⟩
abbrev S10000x2048 : Shape := ⟨2, ![10000, 2048]⟩
abbrev S1x128 : Shape := ⟨2, ![1, 128]⟩

abbrev nBuf : Space → Nat
  | .hbm => 430
  | .vmem => 0
  | .smem => 0
  | _ => 0

abbrev hbmTy0_0 (i : Nat) : BufTy := match i % 128 with
  | 0 => ⟨S10000x128, .f32⟩
  | 1 => ⟨S10000x128, .f32⟩
  | 2 => ⟨S10000x128, .f32⟩
  | 3 => ⟨S10000x128, .f32⟩
  | 4 => ⟨S2x320000, .i32⟩
  | 5 => ⟨S2x320000, .i32⟩
  | 6 => ⟨S2x320000, .i32⟩
  | 7 => ⟨S2x320000, .i32⟩
  | 8 => ⟨S320000, .f32⟩
  | 9 => ⟨S320000, .f32⟩
  | 10 => ⟨S320000, .f32⟩
  | 11 => ⟨S320000, .f32⟩
  | 12 => ⟨S4x128x512, .f32⟩
  | 13 => ⟨S4x512, .f32⟩
  | 14 => ⟨S4x512, .f32⟩
  | 15 => ⟨S4x512, .f32⟩
  | 16 => ⟨S4x512x512, .f32⟩
  | 17 => ⟨S4x512, .f32⟩
  | 18 => ⟨S4x512, .f32⟩
  | 19 => ⟨S4x512, .f32⟩
  | 20 => ⟨S4x512x512, .f32⟩
  | 21 => ⟨S4x512, .f32⟩
  | 22 => ⟨S2048x512, .f32⟩
  | 23 => ⟨S512, .f32⟩
  | 24 => ⟨S512x128, .f32⟩
  | 25 => ⟨S128, .f32⟩
  | 26 => ⟨S1x128x512, .f32⟩
  | 27 => ⟨S128x512, .f32⟩
  | 28 => ⟨S1x512, .f32⟩
  | 29 => ⟨S512, .f32⟩
  | 30 => ⟨S1x512, .f32⟩
  | 31 => ⟨S512, .f32⟩
  | 32 => ⟨S1x512, .f32⟩
  | 33 => ⟨S512, .f32⟩
  | 34 => ⟨S1x512x512, .f32⟩
  | 35 => ⟨S512x512, .f32⟩
  | 36 => ⟨S1x512, .f32⟩
  | 37 => ⟨S512, .f32⟩
  | 38 => ⟨S1x512, .f32⟩
  | 39 => ⟨S512, .f32⟩
  | 40 => ⟨S1x512, .f32⟩
  | 41 => ⟨S512, .f32⟩
  | 42 => ⟨S1x512x512, .f32⟩
  | 43 => ⟨S512x512, .f32⟩
  | 44 => ⟨S1x512, .f32⟩
  | 45 => ⟨S512, .f32⟩
  | 46 => ⟨S10000x512, .f32⟩
  | 47 => ⟨S1x512, .f32⟩
  | 48 => ⟨S10000x512, .f32⟩
  | 49 => ⟨S10000x512, .f32⟩
  | 50 => ⟨S_, .f32⟩
  | 51 => ⟨S512, .f32⟩
  | 52 => ⟨S_, .f32⟩
  | 53 => ⟨S512, .f32⟩
  | 54 => ⟨S512, .f32⟩
  | 55 => ⟨S1x512, .f32⟩
  | 56 => ⟨S10000x512, .f32⟩
  | 57 => ⟨S10000x512, .f32⟩
  | 58 => ⟨S10000x512, .f32⟩
  | 59 => ⟨S_, .f32⟩
  | 60 => ⟨S512, .f32⟩
  | 61 => ⟨S_, .f32⟩
  | 62 => ⟨S512, .f32⟩
  | 63 => ⟨S512, .f32⟩
  | 64 => ⟨S1x512, .f32⟩
  | 65 => ⟨S10000x512, .f32⟩
  | 66 => ⟨S10000x512, .f32⟩
  | 67 => ⟨S1x512, .f32⟩
  | 68 => ⟨S10000x512, .f32⟩
  | 69 => ⟨S10000x512, .f32⟩
  | 70 => ⟨S_, .f32⟩
  | 71 => ⟨S512, .f32⟩
  | 72 => ⟨S512, .f32⟩
  | 73 => ⟨S512, .f32⟩
  | 74 => ⟨S1x512, .f32⟩
  | 75 => ⟨S10000x512, .f32⟩
  | 76 => ⟨S10000x512, .f32⟩
  | 77 => ⟨S1x512, .f32⟩
  | 78 => ⟨S10000x512, .f32⟩
  | 79 => ⟨S10000x512, .f32⟩
  | 80 => ⟨S_, .f32⟩
  | 81 => ⟨S10000x512, .f32⟩
  | 82 => ⟨S10000x512, .f32⟩
  | 83 => ⟨S10000x512, .f32⟩
  | 84 => ⟨S1x512, .f32⟩
  | 85 => ⟨S10000x512, .f32⟩
  | 86 => ⟨S10000x512, .f32⟩
  | 87 => ⟨S_, .f32⟩
  | 88 => ⟨S512, .f32⟩
  | 89 => ⟨S_, .f32⟩
  | 90 => ⟨S512, .f32⟩
  | 91 => ⟨S512, .f32⟩
  | 92 => ⟨S1x512, .f32⟩
  | 93 => ⟨S10000x512, .f32⟩
  | 94 => ⟨S10000x512, .f32⟩
  | 95 => ⟨S10000x512, .f32⟩
  | 96 => ⟨S_, .f32⟩
  | 97 => ⟨S512, .f32⟩
  | 98 => ⟨S_, .f32⟩
  | 99 => ⟨S512, .f32⟩
  | 100 => ⟨S512, .f32⟩
  | 101 => ⟨S1x512, .f32⟩
  | 102 => ⟨S10000x512, .f32⟩
  | 103 => ⟨S10000x512, .f32⟩
  | 104 => ⟨S1x512, .f32⟩
  | 105 => ⟨S10000x512, .f32⟩
  | 106 => ⟨S10000x512, .f32⟩
  | 107 => ⟨S_, .f32⟩
  | 108 => ⟨S512, .f32⟩
  | 109 => ⟨S512, .f32⟩
  | 110 => ⟨S512, .f32⟩
  | 111 => ⟨S1x512, .f32⟩
  | 112 => ⟨S10000x512, .f32⟩
  | 113 => ⟨S10000x512, .f32⟩
  | 114 => ⟨S1x512, .f32⟩
  | 115 => ⟨S10000x512, .f32⟩
  | 116 => ⟨S10000x512, .f32⟩
  | 117 => ⟨S_, .f32⟩
  | 118 => ⟨S10000x512, .f32⟩
  | 119 => ⟨S10000x512, .f32⟩
  | 120 => ⟨S10000x512, .f32⟩
  | 121 => ⟨S1x512, .f32⟩
  | 122 => ⟨S10000x512, .f32⟩
  | 123 => ⟨S10000x512, .f32⟩
  | 124 => ⟨S1x128x512, .f32⟩
  | 125 => ⟨S128x512, .f32⟩
  | 126 => ⟨S1x512, .f32⟩
  | 127 => ⟨S512, .f32⟩
  | _ => ⟨S10000x128, .f32⟩

abbrev hbmTy0_1 (i : Nat) : BufTy := match i % 128 with
  | 0 => ⟨S1x512, .f32⟩
  | 1 => ⟨S512, .f32⟩
  | 2 => ⟨S1x512, .f32⟩
  | 3 => ⟨S512, .f32⟩
  | 4 => ⟨S1x512x512, .f32⟩
  | 5 => ⟨S512x512, .f32⟩
  | 6 => ⟨S1x512, .f32⟩
  | 7 => ⟨S512, .f32⟩
  | 8 => ⟨S1x512, .f32⟩
  | 9 => ⟨S512, .f32⟩
  | 10 => ⟨S1x512, .f32⟩
  | 11 => ⟨S512, .f32⟩
  | 12 => ⟨S1x512x512, .f32⟩
  | 13 => ⟨S512x512, .f32⟩
  | 14 => ⟨S1x512, .f32⟩
  | 15 => ⟨S512, .f32⟩
  | 16 => ⟨S10000x512, .f32⟩
  | 17 => ⟨S1x512, .f32⟩
  | 18 => ⟨S10000x512, .f32⟩
  | 19 => ⟨S10000x512, .f32⟩
  | 20 => ⟨S_, .f32⟩
  | 21 => ⟨S512, .f32⟩
  | 22 => ⟨S_, .f32⟩
  | 23 => ⟨S512, .f32⟩
  | 24 => ⟨S512, .f32⟩
  | 25 => ⟨S1x512, .f32⟩
  | 26 => ⟨S10000x512, .f32⟩
  | 27 => ⟨S10000x512, .f32⟩
  | 28 => ⟨S10000x512, .f32⟩
  | 29 => ⟨S_, .f32⟩
  | 30 => ⟨S512, .f32⟩
  | 31 => ⟨S_, .f32⟩
  | 32 => ⟨S512, .f32⟩
  | 33 => ⟨S512, .f32⟩
  | 34 => ⟨S1x512, .f32⟩
  | 35 => ⟨S10000x512, .f32⟩
  | 36 => ⟨S10000x512, .f32⟩
  | 37 => ⟨S1x512, .f32⟩
  | 38 => ⟨S10000x512, .f32⟩
  | 39 => ⟨S10000x512, .f32⟩
  | 40 => ⟨S_, .f32⟩
  | 41 => ⟨S512, .f32⟩
  | 42 => ⟨S512, .f32⟩
  | 43 => ⟨S512, .f32⟩
  | 44 => ⟨S1x512, .f32⟩
  | 45 => ⟨S10000x512, .f32⟩
  | 46 => ⟨S10000x512, .f32⟩
  | 47 => ⟨S1x512, .f32⟩
  | 48 => ⟨S10000x512, .f32⟩
  | 49 => ⟨S10000x512, .f32⟩
  | 50 => ⟨S_, .f32⟩
  | 51 => ⟨S10000x512, .f32⟩
  | 52 => ⟨S10000x512, .f32⟩
  | 53 => ⟨S10000x512, .f32⟩
  | 54 => ⟨S1x512, .f32⟩
  | 55 => ⟨S10000x512, .f32⟩
  | 56 => ⟨S10000x512, .f32⟩
  | 57 => ⟨S_, .f32⟩
  | 58 => ⟨S512, .f32⟩
  | 59 => ⟨S_, .f32⟩
  | 60 => ⟨S512, .f32⟩
  | 61 => ⟨S512, .f32⟩
  | 62 => ⟨S1x512, .f32⟩
  | 63 => ⟨S10000x512, .f32⟩
  | 64 => ⟨S10000x512, .f32⟩
  | 65 => ⟨S10000x512, .f32⟩
  | 66 => ⟨S_, .f32⟩
  | 67 => ⟨S512, .f32⟩
  | 68 => ⟨S_, .f32⟩
  | 69 => ⟨S512, .f32⟩
  | 70 => ⟨S512, .f32⟩
  | 71 => ⟨S1x512, .f32⟩
  | 72 => ⟨S10000x512, .f32⟩
  | 73 => ⟨S10000x512, .f32⟩
  | 74 => ⟨S1x512, .f32⟩
  | 75 => ⟨S10000x512, .f32⟩
  | 76 => ⟨S10000x512, .f32⟩
  | 77 => ⟨S_, .f32⟩
  | 78 => ⟨S512, .f32⟩
  | 79 => ⟨S512, .f32⟩
  | 80 => ⟨S512, .f32⟩
  | 81 => ⟨S1x512, .f32⟩
  | 82 => ⟨S10000x512, .f32⟩
  | 83 => ⟨S10000x512, .f32⟩
  | 84 => ⟨S1x512, .f32⟩
  | 85 => ⟨S10000x512, .f32⟩
  | 86 => ⟨S10000x512, .f32⟩
  | 87 => ⟨S_, .f32⟩
  | 88 => ⟨S10000x512, .f32⟩
  | 89 => ⟨S10000x512, .f32⟩
  | 90 => ⟨S10000x512, .f32⟩
  | 91 => ⟨S1x512, .f32⟩
  | 92 => ⟨S10000x512, .f32⟩
  | 93 => ⟨S10000x512, .f32⟩
  | 94 => ⟨S1x128x512, .f32⟩
  | 95 => ⟨S128x512, .f32⟩
  | 96 => ⟨S1x512, .f32⟩
  | 97 => ⟨S512, .f32⟩
  | 98 => ⟨S1x512, .f32⟩
  | 99 => ⟨S512, .f32⟩
  | 100 => ⟨S1x512, .f32⟩
  | 101 => ⟨S512, .f32⟩
  | 102 => ⟨S1x512x512, .f32⟩
  | 103 => ⟨S512x512, .f32⟩
  | 104 => ⟨S1x512, .f32⟩
  | 105 => ⟨S512, .f32⟩
  | 106 => ⟨S1x512, .f32⟩
  | 107 => ⟨S512, .f32⟩
  | 108 => ⟨S1x512, .f32⟩
  | 109 => ⟨S512, .f32⟩
  | 110 => ⟨S1x512x512, .f32⟩
  | 111 => ⟨S512x512, .f32⟩
  | 112 => ⟨S1x512, .f32⟩
  | 113 => ⟨S512, .f32⟩
  | 114 => ⟨S10000x512, .f32⟩
  | 115 => ⟨S1x512, .f32⟩
  | 116 => ⟨S10000x512, .f32⟩
  | 117 => ⟨S10000x512, .f32⟩
  | 118 => ⟨S_, .f32⟩
  | 119 => ⟨S512, .f32⟩
  | 120 => ⟨S_, .f32⟩
  | 121 => ⟨S512, .f32⟩
  | 122 => ⟨S512, .f32⟩
  | 123 => ⟨S1x512, .f32⟩
  | 124 => ⟨S10000x512, .f32⟩
  | 125 => ⟨S10000x512, .f32⟩
  | 126 => ⟨S10000x512, .f32⟩
  | 127 => ⟨S_, .f32⟩
  | _ => ⟨S10000x128, .f32⟩

abbrev hbmTy0_2 (i : Nat) : BufTy := match i % 128 with
  | 0 => ⟨S512, .f32⟩
  | 1 => ⟨S_, .f32⟩
  | 2 => ⟨S512, .f32⟩
  | 3 => ⟨S512, .f32⟩
  | 4 => ⟨S1x512, .f32⟩
  | 5 => ⟨S10000x512, .f32⟩
  | 6 => ⟨S10000x512, .f32⟩
  | 7 => ⟨S1x512, .f32⟩
  | 8 => ⟨S10000x512, .f32⟩
  | 9 => ⟨S10000x512, .f32⟩
  | 10 => ⟨S_, .f32⟩
  | 11 => ⟨S512, .f32⟩
  | 12 => ⟨S512, .f32⟩
  | 13 => ⟨S512, .f32⟩
  | 14 => ⟨S1x512, .f32⟩
  | 15 => ⟨S10000x512, .f32⟩
  | 16 => ⟨S10000x512, .f32⟩
  | 17 => ⟨S1x512, .f32⟩
  | 18 => ⟨S10000x512, .f32⟩
  | 19 => ⟨S10000x512, .f32⟩
  | 20 => ⟨S_, .f32⟩
  | 21 => ⟨S10000x512, .f32⟩
  | 22 => ⟨S10000x512, .f32⟩
  | 23 => ⟨S10000x512, .f32⟩
  | 24 => ⟨S1x512, .f32⟩
  | 25 => ⟨S10000x512, .f32⟩
  | 26 => ⟨S10000x512, .f32⟩
  | 27 => ⟨S_, .f32⟩
  | 28 => ⟨S512, .f32⟩
  | 29 => ⟨S_, .f32⟩
  | 30 => ⟨S512, .f32⟩
  | 31 => ⟨S512, .f32⟩
  | 32 => ⟨S1x512, .f32⟩
  | 33 => ⟨S10000x512, .f32⟩
  | 34 => ⟨S10000x512, .f32⟩
  | 35 => ⟨S10000x512, .f32⟩
  | 36 => ⟨S_, .f32⟩
  | 37 => ⟨S512, .f32⟩
  | 38 => ⟨S_, .f32⟩
  | 39 => ⟨S512, .f32⟩
  | 40 => ⟨S512, .f32⟩
  | 41 => ⟨S1x512, .f32⟩
  | 42 => ⟨S10000x512, .f32⟩
  | 43 => ⟨S10000x512, .f32⟩
  | 44 => ⟨S1x512, .f32⟩
  | 45 => ⟨S10000x512, .f32⟩
  | 46 => ⟨S10000x512, .f32⟩
  | 47 => ⟨S_, .f32⟩
  | 48 => ⟨S512, .f32⟩
  | 49 => ⟨S512, .f32⟩
  | 50 => ⟨S512, .f32⟩
  | 51 => ⟨S1x512, .f32⟩
  | 52 => ⟨S10000x512, .f32⟩
  | 53 => ⟨S10000x512, .f32⟩
  | 54 => ⟨S1x512, .f32⟩
  | 55 => ⟨S10000x512, .f32⟩
  | 56 => ⟨S10000x512, .f32⟩
  | 57 => ⟨S_, .f32⟩
  | 58 => ⟨S10000x512, .f32⟩
  | 59 => ⟨S10000x512, .f32⟩
  | 60 => ⟨S10000x512, .f32⟩
  | 61 => ⟨S1x512, .f32⟩
  | 62 => ⟨S10000x512, .f32⟩
  | 63 => ⟨S10000x512, .f32⟩
  | 64 => ⟨S1x128x512, .f32⟩
  | 65 => ⟨S128x512, .f32⟩
  | 66 => ⟨S1x512, .f32⟩
  | 67 => ⟨S512, .f32⟩
  | 68 => ⟨S1x512, .f32⟩
  | 69 => ⟨S512, .f32⟩
  | 70 => ⟨S1x512, .f32⟩
  | 71 => ⟨S512, .f32⟩
  | 72 => ⟨S1x512x512, .f32⟩
  | 73 => ⟨S512x512, .f32⟩
  | 74 => ⟨S1x512, .f32⟩
  | 75 => ⟨S512, .f32⟩
  | 76 => ⟨S1x512, .f32⟩
  | 77 => ⟨S512, .f32⟩
  | 78 => ⟨S1x512, .f32⟩
  | 79 => ⟨S512, .f32⟩
  | 80 => ⟨S1x512x512, .f32⟩
  | 81 => ⟨S512x512, .f32⟩
  | 82 => ⟨S1x512, .f32⟩
  | 83 => ⟨S512, .f32⟩
  | 84 => ⟨S10000x512, .f32⟩
  | 85 => ⟨S1x512, .f32⟩
  | 86 => ⟨S10000x512, .f32⟩
  | 87 => ⟨S10000x512, .f32⟩
  | 88 => ⟨S_, .f32⟩
  | 89 => ⟨S512, .f32⟩
  | 90 => ⟨S_, .f32⟩
  | 91 => ⟨S512, .f32⟩
  | 92 => ⟨S512, .f32⟩
  | 93 => ⟨S1x512, .f32⟩
  | 94 => ⟨S10000x512, .f32⟩
  | 95 => ⟨S10000x512, .f32⟩
  | 96 => ⟨S10000x512, .f32⟩
  | 97 => ⟨S_, .f32⟩
  | 98 => ⟨S512, .f32⟩
  | 99 => ⟨S_, .f32⟩
  | 100 => ⟨S512, .f32⟩
  | 101 => ⟨S512, .f32⟩
  | 102 => ⟨S1x512, .f32⟩
  | 103 => ⟨S10000x512, .f32⟩
  | 104 => ⟨S10000x512, .f32⟩
  | 105 => ⟨S1x512, .f32⟩
  | 106 => ⟨S10000x512, .f32⟩
  | 107 => ⟨S10000x512, .f32⟩
  | 108 => ⟨S_, .f32⟩
  | 109 => ⟨S512, .f32⟩
  | 110 => ⟨S512, .f32⟩
  | 111 => ⟨S512, .f32⟩
  | 112 => ⟨S1x512, .f32⟩
  | 113 => ⟨S10000x512, .f32⟩
  | 114 => ⟨S10000x512, .f32⟩
  | 115 => ⟨S1x512, .f32⟩
  | 116 => ⟨S10000x512, .f32⟩
  | 117 => ⟨S10000x512, .f32⟩
  | 118 => ⟨S_, .f32⟩
  | 119 => ⟨S10000x512, .f32⟩
  | 120 => ⟨S10000x512, .f32⟩
  | 121 => ⟨S10000x512, .f32⟩
  | 122 => ⟨S1x512, .f32⟩
  | 123 => ⟨S10000x512, .f32⟩
  | 124 => ⟨S10000x512, .f32⟩
  | 125 => ⟨S_, .f32⟩
  | 126 => ⟨S512, .f32⟩
  | 127 => ⟨S_, .f32⟩
  | _ => ⟨S10000x128, .f32⟩

abbrev hbmTy0_3 (i : Nat) : BufTy := match i % 128 with
  | 0 => ⟨S512, .f32⟩
  | 1 => ⟨S512, .f32⟩
  | 2 => ⟨S1x512, .f32⟩
  | 3 => ⟨S10000x512, .f32⟩
  | 4 => ⟨S10000x512, .f32⟩
  | 5 => ⟨S10000x512, .f32⟩
  | 6 => ⟨S_, .f32⟩
  | 7 => ⟨S512, .f32⟩
  | 8 => ⟨S_, .f32⟩
  | 9 => ⟨S512, .f32⟩
  | 10 => ⟨S512, .f32⟩
  | 11 => ⟨S1x512, .f32⟩
  | 12 => ⟨S10000x512, .f32⟩
  | 13 => ⟨S10000x512, .f32⟩
  | 14 => ⟨S1x512, .f32⟩
  | 15 => ⟨S10000x512, .f32⟩
  | 16 => ⟨S10000x512, .f32⟩
  | 17 => ⟨S_, .f32⟩
  | 18 => ⟨S512, .f32⟩
  | 19 => ⟨S512, .f32⟩
  | 20 => ⟨S512, .f32⟩
  | 21 => ⟨S1x512, .f32⟩
  | 22 => ⟨S10000x512, .f32⟩
  | 23 => ⟨S10000x512, .f32⟩
  | 24 => ⟨S1x512, .f32⟩
  | 25 => ⟨S10000x512, .f32⟩
  | 26 => ⟨S10000x512, .f32⟩
  | 27 => ⟨S_, .f32⟩
  | 28 => ⟨S10000x512, .f32⟩
  | 29 => ⟨S10000x512, .f32⟩
  | 30 => ⟨S10000x512, .f32⟩
  | 31 => ⟨S1x512, .f32⟩
  | 32 => ⟨S10000x512, .f32⟩
  | 33 => ⟨S10000x512, .f32⟩
  | 34 => ⟨S10000x2048, .f32⟩
  | 35 => ⟨S10000x512, .f32⟩
  | 36 => ⟨S1x512, .f32⟩
  | 37 => ⟨S10000x512, .f32⟩
  | 38 => ⟨S10000x512, .f32⟩
  | 39 => ⟨S_, .f32⟩
  | 40 => ⟨S10000x512, .f32⟩
  | 41 => ⟨S10000x512, .f32⟩
  | 42 => ⟨S10000x128, .f32⟩
  | 43 => ⟨S1x128, .f32⟩
  | 44 => ⟨S10000x128, .f32⟩
  | 45 => ⟨S10000x128, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_cst_0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_cst_2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_3 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call0_cst : Ref sig .tc := ⟨.hbm, 80, rfl⟩
abbrev main_call0_v0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_4 : Ref sig .tc := ⟨.hbm, 87, rfl⟩
abbrev main_v54 : Ref sig .tc := ⟨.hbm, 88, rfl⟩
abbrev main_cst_5 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_6 : Ref sig .tc := ⟨.hbm, 96, rfl⟩
abbrev main_v61 : Ref sig .tc := ⟨.hbm, 97, rfl⟩
abbrev main_cst_7 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_8 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call1_cst : Ref sig .tc := ⟨.hbm, 117, rfl⟩
abbrev main_call1_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_9 : Ref sig .tc := ⟨.hbm, 148, rfl⟩
abbrev main_v108 : Ref sig .tc := ⟨.hbm, 149, rfl⟩
abbrev main_cst_10 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_11 : Ref sig .tc := ⟨.hbm, 157, rfl⟩
abbrev main_v115 : Ref sig .tc := ⟨.hbm, 158, rfl⟩
abbrev main_cst_12 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_13 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_call2_cst : Ref sig .tc := ⟨.hbm, 178, rfl⟩
abbrev main_call2_v0 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_14 : Ref sig .tc := ⟨.hbm, 185, rfl⟩
abbrev main_v138 : Ref sig .tc := ⟨.hbm, 186, rfl⟩
abbrev main_cst_15 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_16 : Ref sig .tc := ⟨.hbm, 194, rfl⟩
abbrev main_v145 : Ref sig .tc := ⟨.hbm, 195, rfl⟩
abbrev main_cst_17 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_18 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_call3_cst : Ref sig .tc := ⟨.hbm, 215, rfl⟩
abbrev main_call3_v0 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_cst_19 : Ref sig .tc := ⟨.hbm, 246, rfl⟩
abbrev main_v192 : Ref sig .tc := ⟨.hbm, 247, rfl⟩
abbrev main_cst_20 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_cst_21 : Ref sig .tc := ⟨.hbm, 255, rfl⟩
abbrev main_v199 : Ref sig .tc := ⟨.hbm, 256, rfl⟩
abbrev main_cst_22 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_cst_23 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_call4_cst : Ref sig .tc := ⟨.hbm, 276, rfl⟩
abbrev main_call4_v0 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_24 : Ref sig .tc := ⟨.hbm, 283, rfl⟩
abbrev main_v222 : Ref sig .tc := ⟨.hbm, 284, rfl⟩
abbrev main_cst_25 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_cst_26 : Ref sig .tc := ⟨.hbm, 292, rfl⟩
abbrev main_v229 : Ref sig .tc := ⟨.hbm, 293, rfl⟩
abbrev main_cst_27 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_cst_28 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_call5_cst : Ref sig .tc := ⟨.hbm, 313, rfl⟩
abbrev main_call5_v0 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_cst_29 : Ref sig .tc := ⟨.hbm, 344, rfl⟩
abbrev main_v276 : Ref sig .tc := ⟨.hbm, 345, rfl⟩
abbrev main_cst_30 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_cst_31 : Ref sig .tc := ⟨.hbm, 353, rfl⟩
abbrev main_v283 : Ref sig .tc := ⟨.hbm, 354, rfl⟩
abbrev main_cst_32 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_cst_33 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_call6_cst : Ref sig .tc := ⟨.hbm, 374, rfl⟩
abbrev main_call6_v0 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_cst_34 : Ref sig .tc := ⟨.hbm, 381, rfl⟩
abbrev main_v306 : Ref sig .tc := ⟨.hbm, 382, rfl⟩
abbrev main_cst_35 : Ref sig .tc := ⟨.hbm, 383, rfl⟩
abbrev main_v307 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_cst_36 : Ref sig .tc := ⟨.hbm, 390, rfl⟩
abbrev main_v313 : Ref sig .tc := ⟨.hbm, 391, rfl⟩
abbrev main_cst_37 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_v318 : Ref sig .tc := ⟨.hbm, 397, rfl⟩
abbrev main_v319 : Ref sig .tc := ⟨.hbm, 398, rfl⟩
abbrev main_v320 : Ref sig .tc := ⟨.hbm, 399, rfl⟩
abbrev main_v321 : Ref sig .tc := ⟨.hbm, 400, rfl⟩
abbrev main_cst_38 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_v325 : Ref sig .tc := ⟨.hbm, 405, rfl⟩
abbrev main_v326 : Ref sig .tc := ⟨.hbm, 406, rfl⟩
abbrev main_v327 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_call7_cst : Ref sig .tc := ⟨.hbm, 411, rfl⟩
abbrev main_call7_v0 : Ref sig .tc := ⟨.hbm, 412, rfl⟩
abbrev main_v331 : Ref sig .tc := ⟨.hbm, 413, rfl⟩
abbrev main_v332 : Ref sig .tc := ⟨.hbm, 414, rfl⟩
abbrev main_v333 : Ref sig .tc := ⟨.hbm, 415, rfl⟩
abbrev main_v334 : Ref sig .tc := ⟨.hbm, 416, rfl⟩
abbrev main_v335 : Ref sig .tc := ⟨.hbm, 417, rfl⟩
abbrev main_v336 : Ref sig .tc := ⟨.hbm, 418, rfl⟩
abbrev main_v337 : Ref sig .tc := ⟨.hbm, 419, rfl⟩
abbrev main_v338 : Ref sig .tc := ⟨.hbm, 420, rfl⟩
abbrev main_v339 : Ref sig .tc := ⟨.hbm, 421, rfl⟩
abbrev main_v340 : Ref sig .tc := ⟨.hbm, 422, rfl⟩
abbrev main_call8_cst : Ref sig .tc := ⟨.hbm, 423, rfl⟩
abbrev main_call8_v0 : Ref sig .tc := ⟨.hbm, 424, rfl⟩
abbrev main_v341 : Ref sig .tc := ⟨.hbm, 425, rfl⟩
abbrev main_v342 : Ref sig .tc := ⟨.hbm, 426, rfl⟩
abbrev main_v343 : Ref sig .tc := ⟨.hbm, 427, rfl⟩
abbrev main_v344 : Ref sig .tc := ⟨.hbm, 428, rfl⟩
abbrev main_v345 : Ref sig .tc := ⟨.hbm, 429, rfl⟩

abbrev nD : Nat := 1
abbrev τ : Topo := Topo.v7x

variable {F : FTy → Type} [FloatOps F]
-- ==== Proof.Stack.lean ====
/-
  Slabs of stacked arrays: a three-axis array read one leading index at a time, the array put together from its
  slabs, a tall matrix read by blocks of rows, and what a buffer holds after the stores that write such pieces.
-/
module

public import Idealize.ShloMosaic.Lib.WritesUnit
public import Idealize.ShloMosaic.Lib.VecWindow
public import Idealize.ShloMosaic.Lib.Pointwise.Index
public import Idealize.ShloMosaic.Lib.Pipeline.FrameBody

@[expose] public section

noncomputable section

namespace Cert.Mega

open Idealize.ShloMosaic

variable {Val : EltTy → Type} {e : EltTy}

/-- Slab `j` of a three-axis array, kept as an array with a leading axis of length one. -/
def slab {n p q : ℕ} (X : (⟨3, ![n, p, q]⟩ : Shape).Idx → Val e) (j : Fin n) :
    (⟨3, ![1, p, q]⟩ : Shape).Idx → Val e := fun y => X (ix3 j (y 1) (y 2))

/-- The three-axis array whose slab `j` is `f j`. -/
def stack {n p q : ℕ} (f : Fin n → (⟨3, ![1, p, q]⟩ : Shape).Idx → Val e) :
    (⟨3, ![n, p, q]⟩ : Shape).Idx → Val e := fun y => f (y 0) (ix3 0 (y 1) (y 2))

/-- A load of one slab by its literal offsets is `slab`. -/
theorem ld_slab {n p q : ℕ} (X : (⟨3, ![n, p, q]⟩ : Shape).Idx → Val e) (k : ℕ) (hk : k < n)
    (inb : ∀ a, (![k, 0, 0] : Fin 3 → ℕ) a + (![1, p, q] : Fin 3 → ℕ) a ≤ (![n, p, q] : Fin 3 → ℕ) a) :
    View.ld (S := ⟨3, ![n, p, q]⟩) X (Rect.unit (s := ⟨3, ![n, p, q]⟩) ![k, 0, 0] ![1, p, q] inb) = slab X ⟨k, hk⟩ := by
  funext y
  refine congrArg X (funext fun a => Fin.ext ?_)
  have h0 : (y 0).val < 1 := (y 0).isLt
  match a with
  | ⟨0, _⟩ => show k + 1 * (y 0).val = k; omega
  | ⟨1, _⟩ => show 0 + 1 * (y 1).val = (y 1).val; omega
  | ⟨2, _⟩ => show 0 + 1 * (y 2).val = (y 2).val; omega

/-- A load of a whole matrix is the matrix. -/
theorem ld_whole2 {p q : ℕ} (X : (⟨2, ![p, q]⟩ : Shape).Idx → Val e)
    (inb : ∀ a, (![0, 0] : Fin 2 → ℕ) a + (![p, q] : Fin 2 → ℕ) a ≤ (![p, q] : Fin 2 → ℕ) a) :
    View.ld (S := ⟨2, ![p, q]⟩) X (Rect.unit (s := ⟨2, ![p, q]⟩) ![0, 0] ![p, q] inb) = X := by
  funext y
  refine congrArg X (funext fun a => Fin.ext ?_)
  match a with
  | ⟨0, _⟩ => show 0 + 1 * (y 0).val = (y 0).val; omega
  | ⟨1, _⟩ => show 0 + 1 * (y 1).val = (y 1).val; omega

/-- A load of a whole three-axis array is the array. -/
theorem ld_whole3 {n p q : ℕ} (X : (⟨3, ![n, p, q]⟩ : Shape).Idx → Val e)
    (inb : ∀ a, (![0, 0, 0] : Fin 3 → ℕ) a + (![n, p, q] : Fin 3 → ℕ) a ≤ (![n, p, q] : Fin 3 → ℕ) a) :
    View.ld (S := ⟨3, ![n, p, q]⟩) X (Rect.unit (s := ⟨3, ![n, p, q]⟩) ![0, 0, 0] ![n, p, q] inb) = X := by
  funext y
  refine congrArg X (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- Slab `j` of the array put together from `f` is `f j`. -/
theorem slab_stack {n p q : ℕ} (f : Fin n → (⟨3, ![1, p, q]⟩ : Shape).Idx → Val e) (j : Fin n) :
    slab (stack f) j = f j := by
  funext y
  refine congrArg (f j) (funext fun a => Fin.ext ?_)
  have h0 : (y 0).val < 1 := (y 0).isLt
  match a with
  | ⟨0, _⟩ => show 0 = (y 0).val; omega
  | ⟨1, _⟩ => rfl
  | ⟨2, _⟩ => rfl

section Writes

variable {sig : RefSig} {κ : Kind} {sp : Space}

/-- Four stores, one into each slab of a stack of four, leave the stack of what was stored. -/
theorem read_stack4 {p q : ℕ} (v : View sig κ sp ⟨3, ![4, p, q]⟩ e) (g : v.ty.Contents Val)
    (f : Fin 4 → (⟨3, ![1, p, q]⟩ : Shape).Idx → Val e)
    (i0 : ∀ a, (![0, 0, 0] : Fin 3 → ℕ) a + (![1, p, q] : Fin 3 → ℕ) a ≤ (![4, p, q] : Fin 3 → ℕ) a)
    (i1 : ∀ a, (![1, 0, 0] : Fin 3 → ℕ) a + (![1, p, q] : Fin 3 → ℕ) a ≤ (![4, p, q] : Fin 3 → ℕ) a)
    (i2 : ∀ a, (![2, 0, 0] : Fin 3 → ℕ) a + (![1, p, q] : Fin 3 → ℕ) a ≤ (![4, p, q] : Fin 3 → ℕ) a)
    (i3 : ∀ a, (![3, 0, 0] : Fin 3 → ℕ) a + (![1, p, q] : Fin 3 → ℕ) a ≤ (![4, p, q] : Fin 3 → ℕ) a) :
    v.read Val (v.writes Val g
      [(⟨Rect.unit (s := ⟨3, ![4, p, q]⟩) ![3, 0, 0] ![1, p, q] i3, f 3⟩ : View.Piece Val ⟨3, ![4, p, q]⟩ e),
       ⟨Rect.unit (s := ⟨3, ![4, p, q]⟩) ![2, 0, 0] ![1, p, q] i2, f 2⟩,
       ⟨Rect.unit (s := ⟨3, ![4, p, q]⟩) ![1, 0, 0] ![1, p, q] i1, f 1⟩,
       ⟨Rect.unit (s := ⟨3, ![4, p, q]⟩) ![0, 0, 0] ![1, p, q] i0, f 0⟩]) = stack f := by
  have key : ∀ (k : Fin 4) (ik : ∀ a, (![k.val, 0, 0] : Fin 3 → ℕ) a + (![1, p, q] : Fin 3 → ℕ) a ≤ (![4, p, q] : Fin 3 → ℕ) a)
      (x : (⟨3, ![1, p, q]⟩ : Shape).Idx),
      f k x = stack f ((Rect.unit (s := ⟨3, ![4, p, q]⟩) ![k.val, 0, 0] ![1, p, q] ik).emb x) := by
    intro k ik x
    have h0 : (x 0).val < 1 := (x 0).isLt
    have e0 : ((Rect.unit (s := ⟨3, ![4, p, q]⟩) ![k.val, 0, 0] ![1, p, q] ik).emb x) 0 = k := by
      apply Fin.ext; show k.val + 1 * (x 0).val = k.val; omega
    unfold stack
    rw [e0]
    refine congrArg (f k) (funext fun a => Fin.ext ?_)
    match a with
    | ⟨0, _⟩ => show (x 0).val = 0; omega
    | ⟨1, _⟩ => show (x 1).val = 0 + 1 * (x 1).val; omega
    | ⟨2, _⟩ => show (x 2).val = 0 + 1 * (x 2).val; omega
  funext y
  refine View.read_writes_apply_of_pieces v g (stack f) _ ?_ y ?_
  · intro pc hpc
    simp only [List.mem_cons, List.not_mem_nil, or_false] at hpc
    rcases hpc with rfl | rfl | rfl | rfl
    · exact key 3 i3
    · exact key 2 i2
    · exact key 1 i1
    · exact key 0 i0
  · have hy : ∀ (k : ℕ) (ik : ∀ a, (![k, 0, 0] : Fin 3 → ℕ) a + (![1, p, q] : Fin 3 → ℕ) a ≤ (![4, p, q] : Fin 3 → ℕ) a),
        (y 0).val = k → y ∈ (Rect.unit (s := ⟨3, ![4, p, q]⟩) ![k, 0, 0] ![1, p, q] ik).set := by
      intro k ik hk
      rw [Rect.mem_set_unit]
      intro a
      match a with
      | ⟨0, _⟩ => exact ⟨by show k ≤ (y 0).val; omega, by show (y 0).val < k + 1; omega⟩
      | ⟨1, _⟩ => exact ⟨Nat.zero_le _, by show (y 1).val < 0 + p; rw [Nat.zero_add]; exact (y 1).isLt⟩
      | ⟨2, _⟩ => exact ⟨Nat.zero_le _, by show (y 2).val < 0 + q; rw [Nat.zero_add]; exact (y 2).isLt⟩
    have h4 : (y 0).val < 4 := (y 0).isLt
    have hc : (y 0).val = 3 ∨ (y 0).val = 2 ∨ (y 0).val = 1 ∨ (y 0).val = 0 := by omega
    rcases hc with hc | hc | hc | hc
    · exact ⟨_, .head _, hy 3 i3 hc⟩
    · exact ⟨_, .tail _ (.head _), hy 2 i2 hc⟩
    · exact ⟨_, .tail _ (.tail _ (.head _)), hy 1 i1 hc⟩
    · exact ⟨_, .tail _ (.tail _ (.tail _ (.head _))), hy 0 i0 hc⟩

/-- Rows `512 * j` to `512 * j + 511` of a matrix of 2048 rows. -/
def rowBlk {q : ℕ} (X : (⟨2, ![2048, q]⟩ : Shape).Idx → Val e) (j : Fin 4) :
    (⟨2, ![512, q]⟩ : Shape).Idx → Val e :=
  fun y => X (ix2 ⟨512 * j.val + (y 0).val, by have h : (y 0).val < 512 := (y 0).isLt; have := j.isLt; omega⟩ (y 1))

/-- The matrix of 2048 rows whose four blocks of 512 rows are `f 0` to `f 3`. -/
def rows4 {q : ℕ} (f : Fin 4 → (⟨2, ![512, q]⟩ : Shape).Idx → Val e) :
    (⟨2, ![2048, q]⟩ : Shape).Idx → Val e :=
  fun y => f ⟨(y 0).val / 512, by have h : (y 0).val < 2048 := (y 0).isLt; omega⟩
    (ix2 ⟨(y 0).val % 512, Nat.mod_lt _ (by decide)⟩ (y 1))

/-- A load of 512 rows by their literal offset is `rowBlk`. -/
theorem ld_rowBlk {q : ℕ} (X : (⟨2, ![2048, q]⟩ : Shape).Idx → Val e) (j : Fin 4) (k : ℕ) (hk : k = 512 * j.val)
    (inb : ∀ a, (![k, 0] : Fin 2 → ℕ) a + (![512, q] : Fin 2 → ℕ) a ≤ (![2048, q] : Fin 2 → ℕ) a) :
    View.ld (S := ⟨2, ![2048, q]⟩) X (Rect.unit (s := ⟨2, ![2048, q]⟩) ![k, 0] ![512, q] inb) = rowBlk X j := by
  subst hk
  funext y
  refine congrArg X (funext fun a => Fin.ext ?_)
  match a with
  | ⟨0, _⟩ => show 512 * j.val + 1 * (y 0).val = 512 * j.val + (y 0).val; omega
  | ⟨1, _⟩ => show 0 + 1 * (y 1).val = (y 1).val; omega

/-- Four stores, one into each block of 512 rows, leave the matrix of what was stored. -/
theorem read_rows4 {q : ℕ} (v : View sig κ sp ⟨2, ![2048, q]⟩ e) (g : v.ty.Contents Val)
    (f : Fin 4 → (⟨2, ![512, q]⟩ : Shape).Idx → Val e)
    (i0 : ∀ a, (![0, 0] : Fin 2 → ℕ) a + (![512, q] : Fin 2 → ℕ) a ≤ (![2048, q] : Fin 2 → ℕ) a)
    (i1 : ∀ a, (![512, 0] : Fin 2 → ℕ) a + (![512, q] : Fin 2 → ℕ) a ≤ (![2048, q] : Fin 2 → ℕ) a)
    (i2 : ∀ a, (![1024, 0] : Fin 2 → ℕ) a + (![512, q] : Fin 2 → ℕ) a ≤ (![2048, q] : Fin 2 → ℕ) a)
    (i3 : ∀ a, (![1536, 0] : Fin 2 → ℕ) a + (![512, q] : Fin 2 → ℕ) a ≤ (![2048, q] : Fin 2 → ℕ) a) :
    v.read Val (v.writes Val g
      [(⟨Rect.unit (s := ⟨2, ![2048, q]⟩) ![1536, 0] ![512, q] i3, f 3⟩ : View.Piece Val ⟨2, ![2048, q]⟩ e),
       ⟨Rect.unit (s := ⟨2, ![2048, q]⟩) ![1024, 0] ![512, q] i2, f 2⟩,
       ⟨Rect.unit (s := ⟨2, ![2048, q]⟩) ![512, 0] ![512, q] i1, f 1⟩,
       ⟨Rect.unit (s := ⟨2, ![2048, q]⟩) ![0, 0] ![512, q] i0, f 0⟩]) = rows4 f := by
  have key : ∀ (k : Fin 4) (o : ℕ) (ho : o = 512 * k.val)
      (ik : ∀ a, (![o, 0] : Fin 2 → ℕ) a + (![512, q] : Fin 2 → ℕ) a ≤ (![2048, q] : Fin 2 → ℕ) a)
      (x : (⟨2, ![512, q]⟩ : Shape).Idx),
      f k x = rows4 f ((Rect.unit (s := ⟨2, ![2048, q]⟩) ![o, 0] ![512, q] ik).emb x) := by
    intro k o ho ik x
    have h0 : (x 0).val < 512 := (x 0).isLt
    have e0 : (((Rect.unit (s := ⟨2, ![2048, q]⟩) ![o, 0] ![512, q] ik).emb x) 0).val = 512 * k.val + (x 0).val := by
      show o + 1 * (x 0).val = _; omega
    have e1 : (⟨(((Rect.unit (s := ⟨2, ![2048, q]⟩) ![o, 0] ![512, q] ik).emb x) 0).val / 512, by rw [e0]; have := k.isLt; omega⟩ : Fin 4) = k := by
      apply Fin.ext; show (((Rect.unit (s := ⟨2, ![2048, q]⟩) ![o, 0] ![512, q] ik).emb x) 0).val / 512 = _; rw [e0]; omega
    unfold rows4
    rw [e1]
    refine congrArg (f k) (funext fun a => Fin.ext ?_)
    match a with
    | ⟨0, _⟩ => show (x 0).val = _ % 512; rw [e0]; omega
    | ⟨1, _⟩ => show (x 1).val = 0 + 1 * (x 1).val; omega
  funext y
  refine View.read_writes_apply_of_pieces v g (rows4 f) _ ?_ y ?_
  · intro pc hpc
    simp only [List.mem_cons, List.not_mem_nil, or_false] at hpc
    rcases hpc with rfl | rfl | rfl | rfl
    · exact key 3 1536 rfl i3
    · exact key 2 1024 rfl i2
    · exact key 1 512 rfl i1
    · exact key 0 0 rfl i0
  · have hy : ∀ (k : ℕ) (ik : ∀ a, (![k, 0] : Fin 2 → ℕ) a + (![512, q] : Fin 2 → ℕ) a ≤ (![2048, q] : Fin 2 → ℕ) a),
        k ≤ (y 0).val → (y 0).val < k + 512 → y ∈ (Rect.unit (s := ⟨2, ![2048, q]⟩) ![k, 0] ![512, q] ik).set := by
      intro k ik hk hk'
      rw [Rect.mem_set_unit]
      intro a
      match a with
      | ⟨0, _⟩ => exact ⟨hk, hk'⟩
      | ⟨1, _⟩ => exact ⟨Nat.zero_le _, by show (y 1).val < 0 + q; rw [Nat.zero_add]; exact (y 1).isLt⟩
    have h4 : (y 0).val < 2048 := (y 0).isLt
    by_cases h3 : 1536 ≤ (y 0).val
    · exact ⟨_, .head _, hy 1536 i3 h3 (by omega)⟩
    by_cases h2 : 1024 ≤ (y 0).val
    · exact ⟨_, .tail _ (.head _), hy 1024 i2 h2 (by omega)⟩
    by_cases h1 : 512 ≤ (y 0).val
    · exact ⟨_, .tail _ (.tail _ (.head _)), hy 512 i1 h1 (by omega)⟩
    · exact ⟨_, .tail _ (.tail _ (.tail _ (.head _))), hy 0 i0 (Nat.zero_le _) (by omega)⟩

end Writes

/-! ## One column of blocks of a four-axis array -/

/-- Block `(j, l)` of a four-axis array. -/
def blk4 {n k p q : ℕ} (X : (⟨4, ![n, k, p, q]⟩ : Shape).Idx → Val e) (l : Fin k) (j : Fin n) :
    (⟨4, ![1, 1, p, q]⟩ : Shape).Idx → Val e := fun y => X (ix4 j l (y 2) (y 3))

/-- The array with the blocks `(j, l)`, `j` any, replaced by `h j`. -/
def put4 {n k p q : ℕ} (l : ℕ) (h : Fin n → (⟨4, ![1, 1, p, q]⟩ : Shape).Idx → Val e)
    (X : (⟨4, ![n, k, p, q]⟩ : Shape).Idx → Val e) : (⟨4, ![n, k, p, q]⟩ : Shape).Idx → Val e :=
  fun y => if (y 1).val = l then h (y 0) (ix4 0 0 (y 2) (y 3)) else X y

/-- A block just put in place is read back. -/
theorem blk4_put4_same {n k p q : ℕ} (l : Fin k) (h : Fin n → (⟨4, ![1, 1, p, q]⟩ : Shape).Idx → Val e)
    (X : (⟨4, ![n, k, p, q]⟩ : Shape).Idx → Val e) (j : Fin n) : blk4 (put4 l.val h X) l j = h j := by
  funext y
  have h0 : (y 0).val < 1 := (y 0).isLt
  have h1 : (y 1).val < 1 := (y 1).isLt
  unfold blk4 put4
  rw [if_pos (show ((ix4 j l (y 2) (y 3) : (⟨4, ![n, k, p, q]⟩ : Shape).Idx) 1).val = l.val from rfl)]
  refine congrArg (h j) (funext fun a => Fin.ext ?_)
  match a with
  | ⟨0, _⟩ => show 0 = (y 0).val; omega
  | ⟨1, _⟩ => show 0 = (y 1).val; omega
  | ⟨2, _⟩ => rfl
  | ⟨3, _⟩ => rfl

/-- The blocks of another column are as they were. -/
theorem blk4_put4_ne {n k p q : ℕ} (l : ℕ) (l' : Fin k) (hl : l'.val ≠ l) (h : Fin n → (⟨4, ![1, 1, p, q]⟩ : Shape).Idx → Val e)
    (X : (⟨4, ![n, k, p, q]⟩ : Shape).Idx → Val e) (j : Fin n) : blk4 (put4 l h X) l' j = blk4 X l' j := by
  funext y
  unfold blk4 put4
  exact if_neg (show ¬((ix4 j l' (y 2) (y 3) : (⟨4, ![n, k, p, q]⟩ : Shape).Idx) 1).val = l from hl)

/-- A load of one block is `blk4`, the offsets given by an equation. -/
theorem ld_blk4 {n k p q : ℕ} (X : (⟨4, ![n, k, p, q]⟩ : Shape).Idx → Val e) (l : Fin k) (j : Fin n) (off : Fin 4 → ℕ)
    (hoff : off = ![j.val, l.val, 0, 0])
    (inb : ∀ a, off a + (![1, 1, p, q] : Fin 4 → ℕ) a ≤ (![n, k, p, q] : Fin 4 → ℕ) a) :
    View.ld (S := ⟨4, ![n, k, p, q]⟩) X (Rect.unit (s := ⟨4, ![n, k, p, q]⟩) off ![1, 1, p, q] inb) = blk4 X l j := by
  subst hoff
  funext y
  have h0 : (y 0).val < 1 := (y 0).isLt
  have h1 : (y 1).val < 1 := (y 1).isLt
  refine congrArg X (funext fun a => Fin.ext ?_)
  match a with
  | ⟨0, _⟩ => show j.val + 1 * (y 0).val = j.val; omega
  | ⟨1, _⟩ => show l.val + 1 * (y 1).val = l.val; omega
  | ⟨2, _⟩ => show 0 + 1 * (y 2).val = (y 2).val; omega
  | ⟨3, _⟩ => show 0 + 1 * (y 3).val = (y 3).val; omega

/-- Four stores, into the blocks `(0, l)` to `(3, l)`, leave the array with those blocks put in place. -/
theorem read_put4 {sig : RefSig} {κ : Kind} {sp : Space} {k p q : ℕ} (v : View sig κ sp ⟨4, ![4, k, p, q]⟩ e) (g : v.ty.Contents Val)
    (l : ℕ) (h : Fin 4 → (⟨4, ![1, 1, p, q]⟩ : Shape).Idx → Val e) (o0 o1 o2 o3 : Fin 4 → ℕ)
    (h0 : o0 = ![0, l, 0, 0]) (h1 : o1 = ![1, l, 0, 0]) (h2 : o2 = ![2, l, 0, 0]) (h3 : o3 = ![3, l, 0, 0])
    (i0 : ∀ a, o0 a + (![1, 1, p, q] : Fin 4 → ℕ) a ≤ (![4, k, p, q] : Fin 4 → ℕ) a)
    (i1 : ∀ a, o1 a + (![1, 1, p, q] : Fin 4 → ℕ) a ≤ (![4, k, p, q] : Fin 4 → ℕ) a)
    (i2 : ∀ a, o2 a + (![1, 1, p, q] : Fin 4 → ℕ) a ≤ (![4, k, p, q] : Fin 4 → ℕ) a)
    (i3 : ∀ a, o3 a + (![1, 1, p, q] : Fin 4 → ℕ) a ≤ (![4, k, p, q] : Fin 4 → ℕ) a) :
    v.read Val (v.writes Val g
      [(⟨Rect.unit (s := ⟨4, ![4, k, p, q]⟩) o3 ![1, 1, p, q] i3, h 3⟩ : View.Piece Val ⟨4, ![4, k, p, q]⟩ e),
       ⟨Rect.unit (s := ⟨4, ![4, k, p, q]⟩) o2 ![1, 1, p, q] i2, h 2⟩,
       ⟨Rect.unit (s := ⟨4, ![4, k, p, q]⟩) o1 ![1, 1, p, q] i1, h 1⟩,
       ⟨Rect.unit (s := ⟨4, ![4, k, p, q]⟩) o0 ![1, 1, p, q] i0, h 0⟩]) = put4 l h (v.read Val g) := by
  subst h0 h1 h2 h3
  funext y
  by_cases hl : (y 1).val = l
  · have hv : put4 l h (v.read Val g) y = h (y 0) (ix4 0 0 (y 2) (y 3)) := if_pos hl
    have hit : ∀ (n : ℕ) (hn : (y 0).val = n) (a : Fin 4), (y a).val = (![n, l, 0, 0] : Fin 4 → ℕ) a
        + ((ix4 0 0 (y 2) (y 3) : (⟨4, ![1, 1, p, q]⟩ : Shape).Idx) a).val := by
      intro n hn a
      match a with
      | ⟨0, _⟩ => show (y 0).val = n + 0; omega
      | ⟨1, _⟩ => show (y 1).val = l + 0; omega
      | ⟨2, _⟩ => show (y 2).val = 0 + (y 2).val; omega
      | ⟨3, _⟩ => show (y 3).val = 0 + (y 3).val; omega
    have h4 : (y 0).val < 4 := (y 0).isLt
    have hc : (y 0).val = 3 ∨ (y 0).val = 2 ∨ (y 0).val = 1 ∨ (y 0).val = 0 := by omega
    have hh : ∀ n : Fin 4, (y 0).val = n.val → h n (ix4 0 0 (y 2) (y 3)) = h (y 0) (ix4 0 0 (y 2) (y 3)) := by
      intro n hn; have e : n = y 0 := Fin.ext hn.symm; rw [e]
    rw [hv]
    rcases hc with hc | hc | hc | hc
    · exact (View.read_writes_cons_unit_of_mem v g i3 (h 3) _ y _ rfl (hit 3 hc)).trans (hh 3 hc)
    · refine (View.read_writes_cons_unit_of_not_mem v g i3 (h 3) _ y rfl 0 (Or.inl ?_)).trans ?_
      · show (y 0).val < 3; omega
      exact (View.read_writes_cons_unit_of_mem v g i2 (h 2) _ y _ rfl (hit 2 hc)).trans (hh 2 hc)
    · refine (View.read_writes_cons_unit_of_not_mem v g i3 (h 3) _ y rfl 0 (Or.inl ?_)).trans ?_
      · show (y 0).val < 3; omega
      refine (View.read_writes_cons_unit_of_not_mem v g i2 (h 2) _ y rfl 0 (Or.inl ?_)).trans ?_
      · show (y 0).val < 2; omega
      exact (View.read_writes_cons_unit_of_mem v g i1 (h 1) _ y _ rfl (hit 1 hc)).trans (hh 1 hc)
    · refine (View.read_writes_cons_unit_of_not_mem v g i3 (h 3) _ y rfl 0 (Or.inl ?_)).trans ?_
      · show (y 0).val < 3; omega
      refine (View.read_writes_cons_unit_of_not_mem v g i2 (h 2) _ y rfl 0 (Or.inl ?_)).trans ?_
      · show (y 0).val < 2; omega
      refine (View.read_writes_cons_unit_of_not_mem v g i1 (h 1) _ y rfl 0 (Or.inl ?_)).trans ?_
      · show (y 0).val < 1; omega
      exact (View.read_writes_cons_unit_of_mem v g i0 (h 0) _ y _ rfl (hit 0 hc)).trans (hh 0 hc)
  · have miss : (y 1).val < l ∨ l + 1 ≤ (y 1).val := by omega
    have hv : put4 l h (v.read Val g) y = v.read Val g y := if_neg hl
    rw [hv]
    refine (View.read_writes_cons_unit_of_not_mem v g i3 (h 3) _ y rfl 1 miss).trans ?_
    refine (View.read_writes_cons_unit_of_not_mem v g i2 (h 2) _ y rfl 1 miss).trans ?_
    refine (View.read_writes_cons_unit_of_not_mem v g i1 (h 1) _ y rfl 1 miss).trans ?_
    exact (View.read_writes_cons_unit_of_not_mem v g i0 (h 0) [] y rfl 1 miss).trans rfl

end Cert.Mega

end
-- ==== Proof.KernelIdeal.Vals.lean ====
/-
  What each phase of the kernel computes, as functions of what it reads: the first layer's moments, its folded
  weights and offsets, the second layer's rows and their moments, the folded output weights, and the block of results.
-/
module

public import proofs.«01_k».proof.Proof.Stack
public import proofs.«01_k».proof.Proof.Gen.KernelIdeal.Frame
public import proofs.«01_k».proof.Proof.Gen.KernelIdeal.Skeleton

@[expose] public section

set_option maxRecDepth 16384

noncomputable section

namespace Cert.KernelIdeal.Mega

open Cert.KernelIdeal.Gen Cert.Mega
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## First phase: sums of the rows and of their products -/

/-- The sums of the four inputs' rows, the first block. -/
def mFst (x : Fin 4 → Vec F S1000x128 .f32) : Vec F S4x1x128 .f32 := k0_pay3 (x 0) (x 1) (x 2) (x 3)
/-- The same, one block more. -/
def mNxt (x : Fin 4 → Vec F S1000x128 .f32) (a : Vec F S4x1x128 .f32) : Vec F S4x1x128 .f32 := k0_pay5 (x 0) (x 1) (x 2) (x 3) a
/-- The products of the four inputs' columns, the first block. -/
def sFst (x : Fin 4 → Vec F S1000x128 .f32) : Vec F S4x128x128 .f32 := k0_pay4 (x 0) (x 1) (x 2) (x 3)
/-- The same, one block more. -/
def sNxt (x : Fin 4 → Vec F S1000x128 .f32) (a : Vec F S4x128x128 .f32) : Vec F S4x128x128 .f32 := k0_pay6 (x 0) (x 1) (x 2) (x 3) a

/-! ## Between the phases: the first layer's normalisation folded into its weights -/

/-- One branch's offset after the first layer. -/
def c1P (W : Vec F S1x128x512 .bf16) (M : Vec F S1x1x128 .f32) (S : Vec F S1x128x128 .f32) (G B : Vec F S1x1x512 .f32) : Vec F S1x1x512 .bf16 :=
  k0_pay23 W M S G B
/-- One branch's scaled first-layer weights. -/
def w1P (W : Vec F S1x128x512 .bf16) (M : Vec F S1x1x128 .f32) (S : Vec F S1x128x128 .f32) (G : Vec F S1x1x512 .f32) : Vec F S1x128x512 .bf16 :=
  k0_pay25 (k0_pay24 W M S G)
/-- The four branches' offsets. -/
def c1A (W : Vec F S4x128x512 .bf16) (M : Vec F S4x1x128 .f32) (S : Vec F S4x128x128 .f32) (G B : Vec F S4x1x512 .f32) : Vec F S4x1x512 .bf16 :=
  stack fun j => c1P (slab W j) (slab M j) (slab S j) (slab G j) (slab B j)
/-- The four branches' scaled weights. -/
def w1A (W : Vec F S4x128x512 .bf16) (M : Vec F S4x1x128 .f32) (S : Vec F S4x128x128 .f32) (G : Vec F S4x1x512 .f32) : Vec F S4x128x512 .bf16 :=
  stack fun j => w1P (slab W j) (slab M j) (slab S j) (slab G j)

/-! ## Second phase: the second layer's rows and their moments -/

/-- A block of rows of the four branches after the second layer's product. -/
def h2A (x : Fin 4 → Vec F S1000x128 .f32) (w : Vec F S4x128x512 .bf16) (c : Vec F S4x1x512 .bf16) (W2 : Vec F S4x512x512 .bf16) :
    Fin 4 → Vec F S1x1x1000x512 .bf16 := fun j => k0_pay44 (x j) (slab w j) (slab c j) (slab W2 j)
/-- The running sums and sums of squares, one block more. -/
def stN (x : Fin 4 → Vec F S1000x128 .f32) (w : Vec F S4x128x512 .bf16) (c : Vec F S4x1x512 .bf16) (W2 : Vec F S4x512x512 .bf16)
    (st : Vec F S4x2x512 .f32) : Vec F S4x2x512 .f32 :=
  k0_pay11 (k0_pay45 (x 0) (slab w 0) (slab c 0) (slab W2 0)) (k0_pay45 (x 1) (slab w 1) (slab c 1) (slab W2 1))
    (k0_pay45 (x 2) (slab w 2) (slab c 2) (slab W2 2)) (k0_pay54 (x 3) (slab w 3) (slab c 3) (slab W2 3))
    (k0_pay56 (x 3) (slab w 3) (slab c 3) (slab W2 3)) st

/-! ## Between the phases: the second normalisation and the two output layers folded -/

/-- The four branches' offsets after the second layer, divided by their scales. -/
def c2A (st : Vec F S4x2x512 .f32) (G B : Vec F S4x1x512 .f32) : Vec F S4x1x512 .bf16 :=
  stack fun j => k0_pay15 (slab st j) (slab G j) (slab B j)
/-- The folded output weights. -/
def wcA (Wf1 : Vec F S2048x512 .bf16) (Wfc : Vec F S4x512x512 .bf16) (st : Vec F S4x2x512 .f32) (G : Vec F S4x1x512 .f32) : Vec F S2048x512 .bf16 :=
  rows4 fun j => k0_pay65 (k0_pay58 (rowBlk Wf1 j) (slab Wfc j)) (k0_pay62 (slab st j) (slab G j))
/-- The folded output offset. -/
def bcA (bf1 : Vec F S1x512 .f32) (Wf1 : Vec F S2048x512 .bf16) (bfc : Vec F S4x1x512 .f32) : Vec F S1x512 .bf16 :=
  k0_pay17 (k0_pay86 (k0_pay76 (k0_pay68 (k0_pay59 bf1 (rowBlk Wf1 0) (slab bfc 0)) (rowBlk Wf1 1) (slab bfc 1)) (rowBlk Wf1 2) (slab bfc 2))
    (rowBlk Wf1 3) (slab bfc 3))

/-! ## Third phase -/

/-- A block of the results. -/
def outB (h : Fin 4 → Vec F S1x1x1000x512 .bf16) (c2 : Vec F S4x1x512 .bf16) (wc : Vec F S2048x512 .bf16) (bc : Vec F S1x512 .bf16)
    (Wf2 : Vec F S512x128 .bf16) (bf2 : Vec F S1x128 .f32) : Vec F S1000x128 .f32 :=
  k0_pay18 (k0_pay87 (h 0) (slab c2 0)) (k0_pay87 (h 1) (slab c2 1)) (k0_pay87 (h 2) (slab c2 2)) (k0_pay90 (h 3)) (slab c2 3) wc bc Wf2 bf2

/-! ## The conditions of the body's branches -/

/-- The first phase. -/
abbrev cond0_0 (i : grid0.Coords) : Prop := (Scalar.cmpi .ne (Scalar.extui (Scalar.cmpi .slt (BitVec.ofNat 32 (i 0).val) 10#32)) 0#32) = 1#1
/-- Its first point. -/
abbrev cond0_1 (i : grid0.Coords) : Prop := (Scalar.cmpi .ne (Scalar.extui (Scalar.cmpi .eq (BitVec.ofNat 32 (i 0).val) 0#32)) 0#32) = 1#1
/-- Not the first point. -/
abbrev cond0_2 (i : grid0.Coords) : Prop := (Scalar.cmpi .ne (Scalar.extui (Scalar.cmpi .ne (BitVec.ofNat 32 (i 0).val) 0#32)) 0#32) = 1#1
/-- The second phase's first point. -/
abbrev cond0_3 (i : grid0.Coords) : Prop := (Scalar.cmpi .ne (Scalar.extui (Scalar.cmpi .eq (BitVec.ofNat 32 (i 0).val) 10#32)) 0#32) = 1#1
/-- The second phase. -/
abbrev cond0_4 (i : grid0.Coords) : Prop := k0_cond5 i = 1#1
/-- The third phase's first point. -/
abbrev cond0_5 (i : grid0.Coords) : Prop := (Scalar.cmpi .ne (Scalar.extui (Scalar.cmpi .eq (BitVec.ofNat 32 (i 0).val) 20#32)) 0#32) = 1#1
/-- The third phase. -/
abbrev cond0_6 (i : grid0.Coords) : Prop := k0_cond7 i = 1#1

end Cert.KernelIdeal.Mega

end
-- ==== Proof.KernelIdeal.State.lean ====
/-
  What the kernel's buffers hold point by point, as functions of the arrays it is given: the blocks of rows, the
  running sums, the folded weights, and the blocks of results.
-/
module

public import proofs.«01_k».proof.Proof.KernelIdeal.Vals
public import Idealize.ShloMosaic.Lib.Pipeline.ValueKit

@[expose] public section

set_option maxRecDepth 16384

noncomputable section

namespace Cert.KernelIdeal.Mega

open Cert.KernelIdeal.Gen Cert.Mega
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (c : Dev nD)

/-! ## The arrays the kernel is given -/

/-- Rows `1000 * l` to `1000 * l + 999` of an array of 10000 rows. -/
def rblk (X : Vec F S10000x128 .f32) (l : ℕ) : Vec F S1000x128 .f32 :=
  fun y => X (ix2 ⟨(1000 * l + (y 0).val) % 10000, Nat.mod_lt _ (by decide)⟩ (y 1))

/-- Block `l` of rows of the four inputs. -/
def xb (l : ℕ) : Fin 4 → Vec F S1000x128 .f32 :=
  ![rblk (V m c main_arg0) l, rblk (V m c main_arg1) l, rblk (V m c main_arg2) l, rblk (V m c main_arg3) l]

/-- Operand 4 as the kernel finds it. -/
abbrev kW1 : Vec F S4x128x512 .bf16 := V m c main_v0
/-- Operand 5 as the kernel finds it. -/
abbrev kG1 : Vec F S4x1x512 .f32 := V m c main_v1
/-- Operand 6 as the kernel finds it. -/
abbrev kB1 : Vec F S4x1x512 .f32 := V m c main_v2
/-- Operand 7 as the kernel finds it. -/
abbrev kW2 : Vec F S4x512x512 .bf16 := V m c main_v3
/-- Operand 8 as the kernel finds it. -/
abbrev kG2 : Vec F S4x1x512 .f32 := V m c main_v4
/-- Operand 9 as the kernel finds it. -/
abbrev kB2 : Vec F S4x1x512 .f32 := V m c main_v5
/-- Operand 10 as the kernel finds it. -/
abbrev kFc : Vec F S4x512x512 .bf16 := V m c main_v6
/-- Operand 11 as the kernel finds it. -/
abbrev kF1 : Vec F S2048x512 .bf16 := V m c main_v7
/-- Operand 12 as the kernel finds it. -/
abbrev kbc : Vec F S4x1x512 .f32 := V m c main_v8
/-- Operand 13 as the kernel finds it. -/
abbrev kb1 : Vec F S1x512 .f32 := V m c main_v9
/-- Operand 14 as the kernel finds it. -/
abbrev kF2 : Vec F S512x128 .bf16 := V m c main_v10
/-- Operand 15 as the kernel finds it. -/
abbrev kb2 : Vec F S1x128 .f32 := V m c main_v11

/-! ## Closed forms of the grid -/

/-- The index of the inputs' block at a point. -/
theorem idx_x : ∀ t : Fin cfg0.N, (∀ a, (cfg0.win 0).index t a = (![if t.val < 10 then t.val else if t.val < 20 then t.val - 10 else 9, 0] : Fin 2 → ℕ) a)
    ∧ (∀ a, (cfg0.win 1).index t a = (![if t.val < 10 then t.val else if t.val < 20 then t.val - 10 else 9, 0] : Fin 2 → ℕ) a)
    ∧ (∀ a, (cfg0.win 2).index t a = (![if t.val < 10 then t.val else if t.val < 20 then t.val - 10 else 9, 0] : Fin 2 → ℕ) a)
    ∧ (∀ a, (cfg0.win 3).index t a = (![if t.val < 10 then t.val else if t.val < 20 then t.val - 10 else 9, 0] : Fin 2 → ℕ) a) :=
  (by decide +kernel : ∀ t : Fin grid0.N, _)
/-- Window 4 shows its whole array at every point. -/
theorem idx_4 (t : Fin cfg0.N) : ∀ a, (cfg0.win 4).index t a = (![0, 0, 0] : Fin 3 → ℕ) a := (by decide +kernel : ∀ t : Fin grid0.N, ∀ a, (win0_4).index t a = (![0, 0, 0] : Fin 3 → ℕ) a) t
/-- Window 5 shows its whole array at every point. -/
theorem idx_5 (t : Fin cfg0.N) : ∀ a, (cfg0.win 5).index t a = (![0, 0, 0] : Fin 3 → ℕ) a := (by decide +kernel : ∀ t : Fin grid0.N, ∀ a, (win0_5).index t a = (![0, 0, 0] : Fin 3 → ℕ) a) t
/-- Window 6 shows its whole array at every point. -/
theorem idx_6 (t : Fin cfg0.N) : ∀ a, (cfg0.win 6).index t a = (![0, 0, 0] : Fin 3 → ℕ) a := (by decide +kernel : ∀ t : Fin grid0.N, ∀ a, (win0_6).index t a = (![0, 0, 0] : Fin 3 → ℕ) a) t
/-- Window 7 shows its whole array at every point. -/
theorem idx_7 (t : Fin cfg0.N) : ∀ a, (cfg0.win 7).index t a = (![0, 0, 0] : Fin 3 → ℕ) a := (by decide +kernel : ∀ t : Fin grid0.N, ∀ a, (win0_7).index t a = (![0, 0, 0] : Fin 3 → ℕ) a) t
/-- Window 8 shows its whole array at every point. -/
theorem idx_8 (t : Fin cfg0.N) : ∀ a, (cfg0.win 8).index t a = (![0, 0, 0] : Fin 3 → ℕ) a := (by decide +kernel : ∀ t : Fin grid0.N, ∀ a, (win0_8).index t a = (![0, 0, 0] : Fin 3 → ℕ) a) t
/-- Window 9 shows its whole array at every point. -/
theorem idx_9 (t : Fin cfg0.N) : ∀ a, (cfg0.win 9).index t a = (![0, 0, 0] : Fin 3 → ℕ) a := (by decide +kernel : ∀ t : Fin grid0.N, ∀ a, (win0_9).index t a = (![0, 0, 0] : Fin 3 → ℕ) a) t
/-- Window 10 shows its whole array at every point. -/
theorem idx_10 (t : Fin cfg0.N) : ∀ a, (cfg0.win 10).index t a = (![0, 0, 0] : Fin 3 → ℕ) a := (by decide +kernel : ∀ t : Fin grid0.N, ∀ a, (win0_10).index t a = (![0, 0, 0] : Fin 3 → ℕ) a) t
/-- Window 11 shows its whole array at every point. -/
theorem idx_11 (t : Fin cfg0.N) : ∀ a, (cfg0.win 11).index t a = (![0, 0] : Fin 2 → ℕ) a := (by decide +kernel : ∀ t : Fin grid0.N, ∀ a, (win0_11).index t a = (![0, 0] : Fin 2 → ℕ) a) t
/-- Window 12 shows its whole array at every point. -/
theorem idx_12 (t : Fin cfg0.N) : ∀ a, (cfg0.win 12).index t a = (![0, 0, 0] : Fin 3 → ℕ) a := (by decide +kernel : ∀ t : Fin grid0.N, ∀ a, (win0_12).index t a = (![0, 0, 0] : Fin 3 → ℕ) a) t
/-- Window 13 shows its whole array at every point. -/
theorem idx_13 (t : Fin cfg0.N) : ∀ a, (cfg0.win 13).index t a = (![0, 0] : Fin 2 → ℕ) a := (by decide +kernel : ∀ t : Fin grid0.N, ∀ a, (win0_13).index t a = (![0, 0] : Fin 2 → ℕ) a) t
/-- Window 14 shows its whole array at every point. -/
theorem idx_14 (t : Fin cfg0.N) : ∀ a, (cfg0.win 14).index t a = (![0, 0] : Fin 2 → ℕ) a := (by decide +kernel : ∀ t : Fin grid0.N, ∀ a, (win0_14).index t a = (![0, 0] : Fin 2 → ℕ) a) t
/-- Window 15 shows its whole array at every point. -/
theorem idx_15 (t : Fin cfg0.N) : ∀ a, (cfg0.win 15).index t a = (![0, 0] : Fin 2 → ℕ) a := (by decide +kernel : ∀ t : Fin grid0.N, ∀ a, (win0_15).index t a = (![0, 0] : Fin 2 → ℕ) a) t

/-- The results' block index. -/
theorem idx_16 : ∀ t : Fin cfg0.N, ∀ a, (cfg0.win 16).index t a = (![if t.val < 20 then 0 else t.val - 20, 0] : Fin 2 → ℕ) a :=
  (by decide +kernel : ∀ t : Fin grid0.N, ∀ a, win0_16.index t a = (![if t.val < 20 then 0 else t.val - 20, 0] : Fin 2 → ℕ) a)
/-- The results are written back from point 20 on. -/
theorem flush_16 : ∀ t : Fin cfg0.N, (cfg0.win 16).flush t = decide (20 ≤ t.val) :=
  (by decide +kernel : ∀ t : Fin grid0.N, win0_16.flush t = decide (20 ≤ t.val))
/-- Before that the body leaves them alone. -/
theorem idle_16 : ∀ t : Fin cfg0.N, cfg0.idle 16 (grid0.coords t) = decide (t.val < 20) :=
  (by decide +kernel : ∀ t : Fin grid0.N, idle0 16 (grid0.coords t) = decide (t.val < 20))

/-- Branch 0 of the body runs in the first phase. -/
theorem hcond_0 : ∀ t : Fin cfg0.N, cond0_0 (grid0.coords t) ↔ t.val < 10 :=
  (by decide +kernel : ∀ t : Fin grid0.N, cond0_0 (grid0.coords t) ↔ t.val < 10)
/-- Branch 1 of the body runs at the first point. -/
theorem hcond_1 : ∀ t : Fin cfg0.N, cond0_1 (grid0.coords t) ↔ t.val = 0 :=
  (by decide +kernel : ∀ t : Fin grid0.N, cond0_1 (grid0.coords t) ↔ t.val = 0)
/-- Branch 2 of the body runs everywhere but at the first point. -/
theorem hcond_2 : ∀ t : Fin cfg0.N, cond0_2 (grid0.coords t) ↔ t.val ≠ 0 :=
  (by decide +kernel : ∀ t : Fin grid0.N, cond0_2 (grid0.coords t) ↔ t.val ≠ 0)
/-- Branch 3 of the body runs at the first point of the second phase. -/
theorem hcond_3 : ∀ t : Fin cfg0.N, cond0_3 (grid0.coords t) ↔ t.val = 10 :=
  (by decide +kernel : ∀ t : Fin grid0.N, cond0_3 (grid0.coords t) ↔ t.val = 10)
/-- Branch 4 of the body runs in the second phase. -/
theorem hcond_4 : ∀ t : Fin cfg0.N, cond0_4 (grid0.coords t) ↔ (10 ≤ t.val ∧ t.val < 20) :=
  (by decide +kernel : ∀ t : Fin grid0.N, cond0_4 (grid0.coords t) ↔ (10 ≤ t.val ∧ t.val < 20))
/-- Branch 5 of the body runs at the first point of the third phase. -/
theorem hcond_5 : ∀ t : Fin cfg0.N, cond0_5 (grid0.coords t) ↔ t.val = 20 :=
  (by decide +kernel : ∀ t : Fin grid0.N, cond0_5 (grid0.coords t) ↔ t.val = 20)
/-- Branch 6 of the body runs in the third phase. -/
theorem hcond_6 : ∀ t : Fin cfg0.N, cond0_6 (grid0.coords t) ↔ 20 ≤ t.val :=
  (by decide +kernel : ∀ t : Fin grid0.N, cond0_6 (grid0.coords t) ↔ 20 ≤ t.val)
/-- Where the second phase stores branch 1's rows of the second layer. -/
theorem hoff_1 : ∀ t : Fin cfg0.N, 10 ≤ t.val → t.val < 20 → k0_off1 (grid0.coords t) = ![0, t.val - 10, 0, 0] :=
  (by decide +kernel : ∀ t : Fin grid0.N, 10 ≤ t.val → t.val < 20 → k0_off1 (grid0.coords t) = ![0, t.val - 10, 0, 0])
/-- Where the second phase stores branch 2's rows of the second layer. -/
theorem hoff_2 : ∀ t : Fin cfg0.N, 10 ≤ t.val → t.val < 20 → k0_off2 (grid0.coords t) = ![1, t.val - 10, 0, 0] :=
  (by decide +kernel : ∀ t : Fin grid0.N, 10 ≤ t.val → t.val < 20 → k0_off2 (grid0.coords t) = ![1, t.val - 10, 0, 0])
/-- Where the second phase stores branch 3's rows of the second layer. -/
theorem hoff_3 : ∀ t : Fin cfg0.N, 10 ≤ t.val → t.val < 20 → k0_off3 (grid0.coords t) = ![2, t.val - 10, 0, 0] :=
  (by decide +kernel : ∀ t : Fin grid0.N, 10 ≤ t.val → t.val < 20 → k0_off3 (grid0.coords t) = ![2, t.val - 10, 0, 0])
/-- Where the second phase stores branch 4's rows of the second layer. -/
theorem hoff_4 : ∀ t : Fin cfg0.N, 10 ≤ t.val → t.val < 20 → k0_off4 (grid0.coords t) = ![3, t.val - 10, 0, 0] :=
  (by decide +kernel : ∀ t : Fin grid0.N, 10 ≤ t.val → t.val < 20 → k0_off4 (grid0.coords t) = ![3, t.val - 10, 0, 0])
/-- Where the third phase reads branch 1's rows of the second layer. -/
theorem hoff_5 : ∀ t : Fin cfg0.N, 20 ≤ t.val → k0_off5 (grid0.coords t) = ![0, t.val - 20, 0, 0] :=
  (by decide +kernel : ∀ t : Fin grid0.N, 20 ≤ t.val → k0_off5 (grid0.coords t) = ![0, t.val - 20, 0, 0])
/-- Where the third phase reads branch 2's rows of the second layer. -/
theorem hoff_6 : ∀ t : Fin cfg0.N, 20 ≤ t.val → k0_off6 (grid0.coords t) = ![1, t.val - 20, 0, 0] :=
  (by decide +kernel : ∀ t : Fin grid0.N, 20 ≤ t.val → k0_off6 (grid0.coords t) = ![1, t.val - 20, 0, 0])
/-- Where the third phase reads branch 3's rows of the second layer. -/
theorem hoff_7 : ∀ t : Fin cfg0.N, 20 ≤ t.val → k0_off7 (grid0.coords t) = ![2, t.val - 20, 0, 0] :=
  (by decide +kernel : ∀ t : Fin grid0.N, 20 ≤ t.val → k0_off7 (grid0.coords t) = ![2, t.val - 20, 0, 0])
/-- Where the third phase reads branch 4's rows of the second layer. -/
theorem hoff_8 : ∀ t : Fin cfg0.N, 20 ≤ t.val → k0_off8 (grid0.coords t) = ![3, t.val - 20, 0, 0] :=
  (by decide +kernel : ∀ t : Fin grid0.N, 20 ≤ t.val → k0_off8 (grid0.coords t) = ![3, t.val - 20, 0, 0])

/-! ## The windows' blocks -/

/-- The block of input 1's rows at a point. -/
theorem iblk_0 (t : Fin cfg0.N) : iblk m c 0 t = rblk (V m c main_arg0) (if t.val < 10 then t.val else if t.val < 20 then t.val - 10 else 9) := by
  have hN : t.val < 30 := lt_of_lt_of_eq t.isLt N_0
  funext y
  have hy : (y 0).val < 1000 := (y 0).isLt
  unfold rblk
  blk_ext [iblk, idx_x t]
  split_ifs <;> omega
/-- The block of input 2's rows at a point. -/
theorem iblk_1 (t : Fin cfg0.N) : iblk m c 1 t = rblk (V m c main_arg1) (if t.val < 10 then t.val else if t.val < 20 then t.val - 10 else 9) := by
  have hN : t.val < 30 := lt_of_lt_of_eq t.isLt N_0
  funext y
  have hy : (y 0).val < 1000 := (y 0).isLt
  unfold rblk
  blk_ext [iblk, idx_x t]
  split_ifs <;> omega
/-- The block of input 3's rows at a point. -/
theorem iblk_2 (t : Fin cfg0.N) : iblk m c 2 t = rblk (V m c main_arg2) (if t.val < 10 then t.val else if t.val < 20 then t.val - 10 else 9) := by
  have hN : t.val < 30 := lt_of_lt_of_eq t.isLt N_0
  funext y
  have hy : (y 0).val < 1000 := (y 0).isLt
  unfold rblk
  blk_ext [iblk, idx_x t]
  split_ifs <;> omega
/-- The block of input 4's rows at a point. -/
theorem iblk_3 (t : Fin cfg0.N) : iblk m c 3 t = rblk (V m c main_arg3) (if t.val < 10 then t.val else if t.val < 20 then t.val - 10 else 9) := by
  have hN : t.val < 30 := lt_of_lt_of_eq t.isLt N_0
  funext y
  have hy : (y 0).val < 1000 := (y 0).isLt
  unfold rblk
  blk_ext [iblk, idx_x t]
  split_ifs <;> omega
/-- Operand 4 is staged whole. -/
theorem iblk_4 (t : Fin cfg0.N) : iblk m c 4 t = kW1 m c := by
  funext y
  blk_ext [iblk, idx_4 t]
/-- Operand 5 is staged whole. -/
theorem iblk_5 (t : Fin cfg0.N) : iblk m c 5 t = kG1 m c := by
  funext y
  blk_ext [iblk, idx_5 t]
/-- Operand 6 is staged whole. -/
theorem iblk_6 (t : Fin cfg0.N) : iblk m c 6 t = kB1 m c := by
  funext y
  blk_ext [iblk, idx_6 t]
/-- Operand 7 is staged whole. -/
theorem iblk_7 (t : Fin cfg0.N) : iblk m c 7 t = kW2 m c := by
  funext y
  blk_ext [iblk, idx_7 t]
/-- Operand 8 is staged whole. -/
theorem iblk_8 (t : Fin cfg0.N) : iblk m c 8 t = kG2 m c := by
  funext y
  blk_ext [iblk, idx_8 t]
/-- Operand 9 is staged whole. -/
theorem iblk_9 (t : Fin cfg0.N) : iblk m c 9 t = kB2 m c := by
  funext y
  blk_ext [iblk, idx_9 t]
/-- Operand 10 is staged whole. -/
theorem iblk_10 (t : Fin cfg0.N) : iblk m c 10 t = kFc m c := by
  funext y
  blk_ext [iblk, idx_10 t]
/-- Operand 11 is staged whole. -/
theorem iblk_11 (t : Fin cfg0.N) : iblk m c 11 t = kF1 m c := by
  funext y
  blk_ext [iblk, idx_11 t]
/-- Operand 12 is staged whole. -/
theorem iblk_12 (t : Fin cfg0.N) : iblk m c 12 t = kbc m c := by
  funext y
  blk_ext [iblk, idx_12 t]
/-- Operand 13 is staged whole. -/
theorem iblk_13 (t : Fin cfg0.N) : iblk m c 13 t = kb1 m c := by
  funext y
  blk_ext [iblk, idx_13 t]
/-- Operand 14 is staged whole. -/
theorem iblk_14 (t : Fin cfg0.N) : iblk m c 14 t = kF2 m c := by
  funext y
  blk_ext [iblk, idx_14 t]
/-- Operand 15 is staged whole. -/
theorem iblk_15 (t : Fin cfg0.N) : iblk m c 15 t = kb2 m c := by
  funext y
  blk_ext [iblk, idx_15 t]

/-- The four blocks of rows at a point. -/
theorem iblk_x (t : Fin cfg0.N) : (![iblk m c 0 t, iblk m c 1 t, iblk m c 2 t, iblk m c 3 t] : Fin 4 → Vec F S1000x128 .f32)
    = xb m c (if t.val < 10 then t.val else if t.val < 20 then t.val - 10 else 9) := by
  rw [iblk_0, iblk_1, iblk_2, iblk_3]; rfl

/-! ## The values -/

/-- The sums of the rows of the blocks up to `l`. -/
def mAcc : ℕ → Vec F S4x1x128 .f32
  | 0 => mFst (xb m c 0)
  | l + 1 => mNxt (xb m c (l + 1)) (mAcc l)
/-- The sums of the columns' products over the blocks up to `l`. -/
def sAcc : ℕ → Vec F S4x128x128 .f32
  | 0 => sFst (xb m c 0)
  | l + 1 => sNxt (xb m c (l + 1)) (sAcc l)
/-- The first layer's folded weights. -/
def w1V : Vec F S4x128x512 .bf16 := w1A (kW1 m c) (mAcc m c 9) (sAcc m c 9) (kG1 m c)
/-- The first layer's folded offsets. -/
def c1V : Vec F S4x1x512 .bf16 := c1A (kW1 m c) (mAcc m c 9) (sAcc m c 9) (kG1 m c) (kB1 m c)
/-- Block `l` of the second layer's rows. -/
def h2V (l : ℕ) : Fin 4 → Vec F S1x1x1000x512 .bf16 := h2A (xb m c l) (w1V m c) (c1V m c) (kW2 m c)
/-- The sums and sums of squares of the second layer's rows of the blocks up to `l`. -/
def stAcc : ℕ → Vec F S4x2x512 .f32
  | 0 => stN (xb m c 0) (w1V m c) (c1V m c) (kW2 m c) k0_pay10
  | l + 1 => stN (xb m c (l + 1)) (w1V m c) (c1V m c) (kW2 m c) (stAcc l)
/-- The second normalisation's offsets. -/
def c2V : Vec F S4x1x512 .bf16 := c2A (stAcc m c 9) (kG2 m c) (kB2 m c)
/-- The folded output weights. -/
def wcV : Vec F S2048x512 .bf16 := wcA (kF1 m c) (kFc m c) (stAcc m c 9) (kG2 m c)
/-- The folded output offset. -/
def bcV : Vec F S1x512 .bf16 := bcA (kb1 m c) (kF1 m c) (kbc m c)
/-- Block `l` of the results. -/
def outV (l : ℕ) : Vec F S1000x128 .f32 := outB (h2V m c l) (c2V m c) (wcV m c) (bcV m c) (kF2 m c) (kb2 m c)

/-- What the nine scratch buffers hold before point `n`. -/
structure Inv (n : ℕ) (a18 : Vec F S4x1x128 .f32) (a19 : Vec F S4x128x128 .f32) (a20 : Vec F S4x128x512 .bf16) (a21 : Vec F S4x1x512 .bf16)
    (a22 : Vec F S4x10x1000x512 .bf16) (a23 : Vec F S4x2x512 .f32) (a24 : Vec F S2048x512 .bf16) (a25 : Vec F S1x512 .bf16)
    (a26 : Vec F S4x1x512 .bf16) : Prop where
  m1 : 1 ≤ n → a18 = mAcc m c (min (n - 1) 9)
  s1 : 1 ≤ n → a19 = sAcc m c (min (n - 1) 9)
  w1 : 11 ≤ n → a20 = w1V m c
  c1 : 11 ≤ n → a21 = c1V m c
  h2 : ∀ l : Fin 10, l.val + 11 ≤ n → blk4 a22 l = h2V m c l.val
  st : 11 ≤ n → a23 = stAcc m c (min (n - 11) 9)
  wc : 21 ≤ n → a24 = wcV m c
  bc : 21 ≤ n → a25 = bcV m c
  c2 : 21 ≤ n → a26 = c2V m c

/-- Before the first point nothing is known. -/
theorem Inv.zero (a18 : Vec F S4x1x128 .f32) (a19 : Vec F S4x128x128 .f32) (a20 : Vec F S4x128x512 .bf16) (a21 : Vec F S4x1x512 .bf16)
    (a22 : Vec F S4x10x1000x512 .bf16) (a23 : Vec F S4x2x512 .f32) (a24 : Vec F S2048x512 .bf16) (a25 : Vec F S1x512 .bf16)
    (a26 : Vec F S4x1x512 .bf16) : Inv m c 0 a18 a19 a20 a21 a22 a23 a24 a25 a26 := by
  constructor <;> intros <;> omega

variable {m c}
variable {n : ℕ} {a18 : Vec F S4x1x128 .f32} {a19 : Vec F S4x128x128 .f32} {a20 : Vec F S4x128x512 .bf16} {a21 : Vec F S4x1x512 .bf16}
    {a22 : Vec F S4x10x1000x512 .bf16} {a23 : Vec F S4x2x512 .f32} {a24 : Vec F S2048x512 .bf16} {a25 : Vec F S1x512 .bf16}
    {a26 : Vec F S4x1x512 .bf16}

/-- The first point. -/
theorem Inv.stepA0 : Inv m c 1 (mFst (xb m c 0)) (sFst (xb m c 0)) a20 a21 a22 a23 a24 a25 a26 := by
  constructor <;> first | (intro h; rfl) | (intros; omega)

/-- A later point of the first phase. -/
theorem Inv.stepA1 (h : Inv m c n a18 a19 a20 a21 a22 a23 a24 a25 a26) (h0 : n ≠ 0) (h1 : n < 10) :
    Inv m c (n + 1) (mNxt (xb m c n) a18) (sNxt (xb m c n) a19) a20 a21 a22 a23 a24 a25 a26 := by
  obtain ⟨k, rfl⟩ : ∃ k, n = k + 1 := ⟨n - 1, by omega⟩
  have e1 : min (k + 1 - 1) 9 = k := by omega
  have e2 : min (k + 1 + 1 - 1) 9 = k + 1 := by omega
  constructor
  · intro _; rw [h.m1 (by omega), e1, e2]; rfl
  · intro _; rw [h.s1 (by omega), e1, e2]; rfl
  all_goals intros; omega

/-- The second phase's first point. -/
theorem Inv.stepB0 (h : Inv m c 10 a18 a19 a20 a21 a22 a23 a24 a25 a26) :
    Inv m c 11 a18 a19 (w1A (kW1 m c) a18 a19 (kG1 m c)) (c1A (kW1 m c) a18 a19 (kG1 m c) (kB1 m c))
      (put4 0 (h2A (xb m c 0) (w1A (kW1 m c) a18 a19 (kG1 m c)) (c1A (kW1 m c) a18 a19 (kG1 m c) (kB1 m c)) (kW2 m c)) a22)
      (stN (xb m c 0) (w1A (kW1 m c) a18 a19 (kG1 m c)) (c1A (kW1 m c) a18 a19 (kG1 m c) (kB1 m c)) (kW2 m c) k0_pay10) a24 a25 a26 := by
  have e1 : a18 = mAcc m c 9 := h.m1 (by omega)
  have e2 : a19 = sAcc m c 9 := h.s1 (by omega)
  subst e1 e2
  constructor
  · intro _; rfl
  · intro _; rfl
  · intro _; rfl
  · intro _; rfl
  · intro l hl
    obtain rfl : l = 0 := Fin.ext (by have : l.val = 0 := by omega
                                      exact this)
    funext j; exact blk4_put4_same 0 _ a22 j
  · intro _; rfl
  all_goals intros; omega

/-- A later point of the second phase. -/
theorem Inv.stepB1 (h : Inv m c n a18 a19 a20 a21 a22 a23 a24 a25 a26) (h0 : 11 ≤ n) (h1 : n < 20) :
    Inv m c (n + 1) a18 a19 a20 a21 (put4 (n - 10) (h2A (xb m c (n - 10)) a20 a21 (kW2 m c)) a22)
      (stN (xb m c (n - 10)) a20 a21 (kW2 m c) a23) a24 a25 a26 := by
  have e1 := h.w1 h0
  have e2 := h.c1 h0
  have e3 := h.st h0
  subst e1 e2 e3
  obtain ⟨k, rfl⟩ : ∃ k, n = k + 11 := ⟨n - 11, by omega⟩
  have e4 : min (k + 11 - 11) 9 = k := by omega
  have e5 : min (k + 11 + 1 - 11) 9 = k + 1 := by omega
  have e6 : k + 11 - 10 = k + 1 := by omega
  have e7 : min (k + 11 - 1) 9 = 9 := by omega
  have e8 : min (k + 11 + 1 - 1) 9 = 9 := by omega
  constructor
  · intro _; rw [h.m1 (by omega), e7, e8]
  · intro _; rw [h.s1 (by omega), e7, e8]
  · intro _; rfl
  · intro _; rfl
  · intro l hl
    funext j
    by_cases hlk : l.val = k + 1
    · have := blk4_put4_same l (h2A (xb m c (k + 1)) (w1V m c) (c1V m c) (kW2 m c)) a22 j
      rw [hlk] at this ⊢
      rw [e6, this]; rfl
    · rw [blk4_put4_ne _ l (by omega), h.h2 l (by omega)]
  · intro _; rw [e4, e5, e6]; rfl
  all_goals intros; omega

/-- The third phase's first point. -/
theorem Inv.stepC0 (h : Inv m c 20 a18 a19 a20 a21 a22 a23 a24 a25 a26) :
    Inv m c 21 a18 a19 a20 a21 a22 a23 (wcA (kF1 m c) (kFc m c) a23 (kG2 m c)) (bcA (kb1 m c) (kF1 m c) (kbc m c)) (c2A a23 (kG2 m c) (kB2 m c)) := by
  have e1 : a23 = stAcc m c 9 := h.st (by omega)
  subst e1
  exact ⟨fun _ => h.m1 (by omega), fun _ => h.s1 (by omega), fun _ => h.w1 (by omega), fun _ => h.c1 (by omega),
    fun l hl => h.h2 l (by have := l.isLt; omega), fun _ => rfl, fun _ => rfl, fun _ => rfl, fun _ => rfl⟩

/-- The results at that point. -/
theorem Inv.outC0 (h : Inv m c 20 a18 a19 a20 a21 a22 a23 a24 a25 a26) :
    outB (blk4 a22 0) (c2A a23 (kG2 m c) (kB2 m c)) (wcA (kF1 m c) (kFc m c) a23 (kG2 m c)) (bcA (kb1 m c) (kF1 m c) (kbc m c)) (kF2 m c) (kb2 m c)
      = outV m c 0 := by
  have e1 : a23 = stAcc m c 9 := h.st (by omega)
  subst e1
  rw [h.h2 0 (by decide)]; rfl

/-- A later point of the third phase. -/
theorem Inv.stepC1 (h : Inv m c n a18 a19 a20 a21 a22 a23 a24 a25 a26) (h0 : 21 ≤ n) :
    Inv m c (n + 1) a18 a19 a20 a21 a22 a23 a24 a25 a26 := by
  have e1 : min (n + 1 - 1) 9 = min (n - 1) 9 := by omega
  have e2 : min (n + 1 - 11) 9 = min (n - 11) 9 := by omega
  exact ⟨fun _ => by rw [e1]; exact h.m1 (by omega), fun _ => by rw [e1]; exact h.s1 (by omega), fun _ => h.w1 (by omega), fun _ => h.c1 (by omega),
    fun l hl => h.h2 l (by have := l.isLt; omega), fun _ => by rw [e2]; exact h.st (by omega), fun _ => h.wc h0, fun _ => h.bc h0, fun _ => h.c2 h0⟩

/-- The results at that point. -/
theorem Inv.outC1 (h : Inv m c n a18 a19 a20 a21 a22 a23 a24 a25 a26) (h0 : 21 ≤ n) (l : Fin 10) :
    outB (blk4 a22 l) a26 a24 a25 (kF2 m c) (kb2 m c) = outV m c l.val := by
  rw [h.h2 l (by have := l.isLt; omega), h.wc h0, h.bc h0, h.c2 h0]; rfl

end Cert.KernelIdeal.Mega

end
-- ==== Proof.KernelIdeal.RunA.lean ====
/-
  The kernel's body in its first phase.
-/
module

public import proofs.«01_k».proof.Proof.KernelIdeal.Vals

@[expose] public section

set_option maxRecDepth 16384

noncomputable section

namespace Cert.KernelIdeal.Mega

open Cert.KernelIdeal.Gen Cert.Mega
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg1 : Memref sig .tc .vmem S1000x128 .f32) (harg1 : arg1.IsWhole)
variable (arg2 : Memref sig .tc .vmem S1000x128 .f32) (harg2 : arg2.IsWhole)
variable (arg3 : Memref sig .tc .vmem S1000x128 .f32) (harg3 : arg3.IsWhole)
variable (arg4 : Memref sig .tc .vmem S1000x128 .f32) (harg4 : arg4.IsWhole)
variable (arg5 : Memref sig .tc .vmem S4x128x512 .bf16) (harg5 : arg5.IsWhole)
variable (arg6 : Memref sig .tc .vmem S4x1x512 .f32) (harg6 : arg6.IsWhole)
variable (arg7 : Memref sig .tc .vmem S4x1x512 .f32) (harg7 : arg7.IsWhole)
variable (arg8 : Memref sig .tc .vmem S4x512x512 .bf16) (harg8 : arg8.IsWhole)
variable (arg9 : Memref sig .tc .vmem S4x1x512 .f32) (harg9 : arg9.IsWhole)
variable (arg10 : Memref sig .tc .vmem S4x1x512 .f32) (harg10 : arg10.IsWhole)
variable (arg11 : Memref sig .tc .vmem S4x512x512 .bf16) (harg11 : arg11.IsWhole)
variable (arg12 : Memref sig .tc .vmem S2048x512 .bf16) (harg12 : arg12.IsWhole)
variable (arg13 : Memref sig .tc .vmem S4x1x512 .f32) (harg13 : arg13.IsWhole)
variable (arg14 : Memref sig .tc .vmem S1x512 .f32) (harg14 : arg14.IsWhole)
variable (arg15 : Memref sig .tc .vmem S512x128 .bf16) (harg15 : arg15.IsWhole)
variable (arg16 : Memref sig .tc .vmem S1x128 .f32) (harg16 : arg16.IsWhole)
variable (arg17 : Memref sig .tc .vmem S1000x128 .f32) (harg17 : arg17.IsWhole)
variable (arg18 : Memref sig .tc .vmem S4x1x128 .f32) (harg18 : arg18.IsWhole)
variable (arg19 : Memref sig .tc .vmem S4x128x128 .f32) (harg19 : arg19.IsWhole)
variable (arg20 : Memref sig .tc .vmem S4x128x512 .bf16) (harg20 : arg20.IsWhole)
variable (arg21 : Memref sig .tc .vmem S4x1x512 .bf16) (harg21 : arg21.IsWhole)
variable (arg22 : Memref sig .tc .vmem S4x10x1000x512 .bf16) (harg22 : arg22.IsWhole)
variable (arg23 : Memref sig .tc .vmem S4x2x512 .f32) (harg23 : arg23.IsWhole)
variable (arg24 : Memref sig .tc .vmem S2048x512 .bf16) (harg24 : arg24.IsWhole)
variable (arg25 : Memref sig .tc .vmem S1x512 .bf16) (harg25 : arg25.IsWhole)
variable (arg26 : Memref sig .tc .vmem S4x1x512 .bf16) (harg26 : arg26.IsWhole)

set_option maxHeartbeats 2000000 in
/-- The grid's first point: the moments' sums start. -/
theorem run_A0 (hc0 : cond0_0 i) (hc1 : cond0_1 i) (hc2 : ¬cond0_2 i) (hc3 : ¬cond0_3 i) (hc4 : ¬cond0_4 i) (hc5 : ¬cond0_5 i) (hc6 : ¬cond0_6 i)
    (x1 : Vec F S1000x128 .f32) (x2 : Vec F S1000x128 .f32) (x3 : Vec F S1000x128 .f32) (x4 : Vec F S1000x128 .f32) (x18 : Vec F S4x1x128 .f32) (x19 : Vec F S4x128x128 .f32) (E : Set ℕ) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg18 fullShare x18
      ∗ owns (c : Thread nD τ) arg19 fullShare x19
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg18 fullShare (mFst ![x1, x2, x3, x4])
      ∗ owns (c : Thread nD τ) arg19 fullShare (sFst ![x1, x2, x3, x4])) -∗ K ⟨⟩))
    ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_kernel_eq_skeleton]; unfold cc0__mega_kernel_skel
  unfold owns
  iintro ⟨⟨%f1, %hf1, H1⟩, ⟨%f2, %hf2, H2⟩, ⟨%f3, %hf3, H3⟩, ⟨%f4, %hf4, H4⟩, ⟨%f18, %hf18, H18⟩, ⟨%f19, %hf19, H19⟩, Hk⟩
  obtain rfl := harg1.eq_unread hf1
  obtain rfl := harg2.eq_unread hf2
  obtain rfl := harg3.eq_unread hf3
  obtain rfl := harg4.eq_unread hf4
  obtain rfl := harg18.eq_unread hf18
  obtain rfl := harg19.eq_unread hf19
  sl_exec (disch := first | sl_exact hc0 | sl_exact hc1 | sl_exact hc2 | sl_exact hc3 | sl_exact hc4 | sl_exact hc5 | sl_exact hc6)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H18]
  · iexists _; isplitr; swap; · iexact H18
    ipureintro
    refine (View.read_writes_full _ _ _ _ _).trans ?_
    simp (disch := decide) only [View.readAt_eq_ld, hf1, hf2, hf3, hf4, hf18, hf19, ld_whole2, ld_whole3, ld_slab]
    rfl
  iexists _; isplitr; swap; · iexact H19
  ipureintro
  refine (View.read_writes_full _ _ _ _ _).trans ?_
  simp (disch := decide) only [View.readAt_eq_ld, hf1, hf2, hf3, hf4, hf18, hf19, ld_whole2, ld_whole3, ld_slab]
  rfl

set_option maxHeartbeats 2000000 in
/-- A later point of the first phase: the moments' sums go on. -/
theorem run_A1 (hc0 : cond0_0 i) (hc1 : ¬cond0_1 i) (hc2 : cond0_2 i) (hc3 : ¬cond0_3 i) (hc4 : ¬cond0_4 i) (hc5 : ¬cond0_5 i) (hc6 : ¬cond0_6 i)
    (x1 : Vec F S1000x128 .f32) (x2 : Vec F S1000x128 .f32) (x3 : Vec F S1000x128 .f32) (x4 : Vec F S1000x128 .f32) (x18 : Vec F S4x1x128 .f32) (x19 : Vec F S4x128x128 .f32) (E : Set ℕ) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg18 fullShare x18
      ∗ owns (c : Thread nD τ) arg19 fullShare x19
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg18 fullShare (mNxt ![x1, x2, x3, x4] x18)
      ∗ owns (c : Thread nD τ) arg19 fullShare (sNxt ![x1, x2, x3, x4] x19)) -∗ K ⟨⟩))
    ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_kernel_eq_skeleton]; unfold cc0__mega_kernel_skel
  unfold owns
  iintro ⟨⟨%f1, %hf1, H1⟩, ⟨%f2, %hf2, H2⟩, ⟨%f3, %hf3, H3⟩, ⟨%f4, %hf4, H4⟩, ⟨%f18, %hf18, H18⟩, ⟨%f19, %hf19, H19⟩, Hk⟩
  obtain rfl := harg1.eq_unread hf1
  obtain rfl := harg2.eq_unread hf2
  obtain rfl := harg3.eq_unread hf3
  obtain rfl := harg4.eq_unread hf4
  obtain rfl := harg18.eq_unread hf18
  obtain rfl := harg19.eq_unread hf19
  sl_exec (disch := first | sl_exact hc0 | sl_exact hc1 | sl_exact hc2 | sl_exact hc3 | sl_exact hc4 | sl_exact hc5 | sl_exact hc6)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H18]
  · iexists _; isplitr; swap; · iexact H18
    ipureintro
    refine (View.read_writes_full _ _ _ _ _).trans ?_
    simp (disch := decide) only [View.readAt_eq_ld, hf1, hf2, hf3, hf4, hf18, hf19, ld_whole2, ld_whole3, ld_slab]
    rfl
  iexists _; isplitr; swap; · iexact H19
  ipureintro
  refine (View.read_writes_full _ _ _ _ _).trans ?_
  simp (disch := decide) only [View.readAt_eq_ld, hf1, hf2, hf3, hf4, hf18, hf19, ld_whole2, ld_whole3, ld_slab]
  rfl

end Cert.KernelIdeal.Mega

end
-- ==== Proof.KernelIdeal.RunB0.lean ====
/-
  The kernel's body at the second phase's first point.
-/
module

public import proofs.«01_k».proof.Proof.KernelIdeal.Vals

@[expose] public section

set_option maxRecDepth 16384

noncomputable section

namespace Cert.KernelIdeal.Mega

open Cert.KernelIdeal.Gen Cert.Mega
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg1 : Memref sig .tc .vmem S1000x128 .f32) (harg1 : arg1.IsWhole)
variable (arg2 : Memref sig .tc .vmem S1000x128 .f32) (harg2 : arg2.IsWhole)
variable (arg3 : Memref sig .tc .vmem S1000x128 .f32) (harg3 : arg3.IsWhole)
variable (arg4 : Memref sig .tc .vmem S1000x128 .f32) (harg4 : arg4.IsWhole)
variable (arg5 : Memref sig .tc .vmem S4x128x512 .bf16) (harg5 : arg5.IsWhole)
variable (arg6 : Memref sig .tc .vmem S4x1x512 .f32) (harg6 : arg6.IsWhole)
variable (arg7 : Memref sig .tc .vmem S4x1x512 .f32) (harg7 : arg7.IsWhole)
variable (arg8 : Memref sig .tc .vmem S4x512x512 .bf16) (harg8 : arg8.IsWhole)
variable (arg9 : Memref sig .tc .vmem S4x1x512 .f32) (harg9 : arg9.IsWhole)
variable (arg10 : Memref sig .tc .vmem S4x1x512 .f32) (harg10 : arg10.IsWhole)
variable (arg11 : Memref sig .tc .vmem S4x512x512 .bf16) (harg11 : arg11.IsWhole)
variable (arg12 : Memref sig .tc .vmem S2048x512 .bf16) (harg12 : arg12.IsWhole)
variable (arg13 : Memref sig .tc .vmem S4x1x512 .f32) (harg13 : arg13.IsWhole)
variable (arg14 : Memref sig .tc .vmem S1x512 .f32) (harg14 : arg14.IsWhole)
variable (arg15 : Memref sig .tc .vmem S512x128 .bf16) (harg15 : arg15.IsWhole)
variable (arg16 : Memref sig .tc .vmem S1x128 .f32) (harg16 : arg16.IsWhole)
variable (arg17 : Memref sig .tc .vmem S1000x128 .f32) (harg17 : arg17.IsWhole)
variable (arg18 : Memref sig .tc .vmem S4x1x128 .f32) (harg18 : arg18.IsWhole)
variable (arg19 : Memref sig .tc .vmem S4x128x128 .f32) (harg19 : arg19.IsWhole)
variable (arg20 : Memref sig .tc .vmem S4x128x512 .bf16) (harg20 : arg20.IsWhole)
variable (arg21 : Memref sig .tc .vmem S4x1x512 .bf16) (harg21 : arg21.IsWhole)
variable (arg22 : Memref sig .tc .vmem S4x10x1000x512 .bf16) (harg22 : arg22.IsWhole)
variable (arg23 : Memref sig .tc .vmem S4x2x512 .f32) (harg23 : arg23.IsWhole)
variable (arg24 : Memref sig .tc .vmem S2048x512 .bf16) (harg24 : arg24.IsWhole)
variable (arg25 : Memref sig .tc .vmem S1x512 .bf16) (harg25 : arg25.IsWhole)
variable (arg26 : Memref sig .tc .vmem S4x1x512 .bf16) (harg26 : arg26.IsWhole)

set_option maxHeartbeats 2000000 in
/-- The second phase's first point: the first normalisation is folded, then a block of the second layer's rows is computed. -/
theorem run_B0 (hc0 : ¬cond0_0 i) (hc3 : cond0_3 i) (hc4 : cond0_4 i) (hc5 : ¬cond0_5 i) (hc6 : ¬cond0_6 i) (l : Fin 10) (ho1 : k0_off1 i = ![0, l.val, 0, 0]) (ho2 : k0_off2 i = ![1, l.val, 0, 0]) (ho3 : k0_off3 i = ![2, l.val, 0, 0]) (ho4 : k0_off4 i = ![3, l.val, 0, 0])
    (x1 : Vec F S1000x128 .f32) (x2 : Vec F S1000x128 .f32) (x3 : Vec F S1000x128 .f32) (x4 : Vec F S1000x128 .f32) (x5 : Vec F S4x128x512 .bf16) (x6 : Vec F S4x1x512 .f32) (x7 : Vec F S4x1x512 .f32) (x8 : Vec F S4x512x512 .bf16) (x18 : Vec F S4x1x128 .f32) (x19 : Vec F S4x128x128 .f32) (x20 : Vec F S4x128x512 .bf16) (x21 : Vec F S4x1x512 .bf16) (x22 : Vec F S4x10x1000x512 .bf16) (x23 : Vec F S4x2x512 .f32) (E : Set ℕ) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg18 fullShare x18
      ∗ owns (c : Thread nD τ) arg19 fullShare x19
      ∗ owns (c : Thread nD τ) arg20 fullShare x20
      ∗ owns (c : Thread nD τ) arg21 fullShare x21
      ∗ owns (c : Thread nD τ) arg22 fullShare x22
      ∗ owns (c : Thread nD τ) arg23 fullShare x23
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg18 fullShare x18
      ∗ owns (c : Thread nD τ) arg19 fullShare x19
      ∗ owns (c : Thread nD τ) arg20 fullShare (w1A x5 x18 x19 x6)
      ∗ owns (c : Thread nD τ) arg21 fullShare (c1A x5 x18 x19 x6 x7)
      ∗ owns (c : Thread nD τ) arg22 fullShare (put4 l.val (h2A ![x1, x2, x3, x4] (w1A x5 x18 x19 x6) (c1A x5 x18 x19 x6 x7) x8) x22)
      ∗ owns (c : Thread nD τ) arg23 fullShare (stN ![x1, x2, x3, x4] (w1A x5 x18 x19 x6) (c1A x5 x18 x19 x6 x7) x8 k0_pay10)) -∗ K ⟨⟩))
    ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_kernel_eq_skeleton]; unfold cc0__mega_kernel_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg18.eq_unread hf18
  obtain rfl := harg19.eq_unread hf19
  obtain rfl := harg20.eq_unread hf20
  obtain rfl := harg21.eq_unread hf21
  obtain rfl := harg22.eq_unread hf22
  obtain rfl := harg23.eq_unread hf23
  sl_exec (disch := first | sl_exact hc0 | sl_exact hc3 | sl_exact hc4 | sl_exact hc5 | sl_exact hc6)
  sl_step
  have e20 : ∀ g, arg20.view.read (Elt F) (arg20.view.writes (Elt F) g (run_B0.sl.H20_4 c arg5 harg5 arg6 harg6 arg7 harg7 arg18 harg18 arg19 harg19 x5 x6 x7 x18 x19)) = (w1A x5 x18 x19 x6) := by
    intro g
    unfold run_B0.sl.H20_4
    simp (disch := decide) only [View.readAt_eq_ld, hf1, hf2, hf3, hf4, hf5, hf6, hf7, hf8, hf18, hf19, hf20, hf21, hf22, hf23, ld_whole2, ld_whole3, ld_slab]
    exact read_stack4 _ g (fun j => w1P (slab x5 j) (slab x18 j) (slab x19 j) (slab x6 j)) _ _ _ _
  have e21 : ∀ g, arg21.view.read (Elt F) (arg21.view.writes (Elt F) g (run_B0.sl.H21_4 c arg5 harg5 arg6 harg6 arg7 harg7 arg18 harg18 arg19 harg19 x5 x6 x7 x18 x19)) = (c1A x5 x18 x19 x6 x7) := by
    intro g
    unfold run_B0.sl.H21_4
    simp (disch := decide) only [View.readAt_eq_ld, hf1, hf2, hf3, hf4, hf5, hf6, hf7, hf8, hf18, hf19, hf20, hf21, hf22, hf23, ld_whole2, ld_whole3, ld_slab]
    exact read_stack4 _ g (fun j => c1P (slab x5 j) (slab x18 j) (slab x19 j) (slab x6 j) (slab x7 j)) _ _ _ _
  have e23 : ∀ g, arg23.view.read (Elt F) (arg23.view.writes (Elt F) g (run_B0.sl.H23_1 (F := F))) = k0_pay10 := fun g => View.read_writes_full _ _ _ _ _
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H18]
  · iexists _; isplitr; · ipureintro; exact harg18.read_unread _
    iexact H18
  isplitl [H19]
  · iexists _; isplitr; · ipureintro; exact harg19.read_unread _
    iexact H19
  isplitl [H20]
  · iexists _; isplitr; swap; · iexact H20
    ipureintro
    exact e20 _
  isplitl [H21]
  · iexists _; isplitr; swap; · iexact H21
    ipureintro
    exact e21 _
  isplitl [H22]
  · iexists _; isplitr; swap; · iexact H22
    ipureintro
    delta run_B0.sl.v20 run_B0.sl.v24 run_B0.sl.v46 run_B0.sl.v50 run_B0.sl.v72 run_B0.sl.v76 run_B0.sl.v98 run_B0.sl.v102 run_B0.sl.v122 View.readCov
    simp (disch := decide) only [e20, e21, e23, View.readAt_eq_ld, hf1, hf2, hf3, hf4, hf5, hf6, hf7, hf8, hf18, hf19, hf20, hf21, hf22, hf23, ld_whole2, ld_whole3, ld_slab]
    exact (read_put4 arg22.view (harg22.unread x22) l.val (h2A ![x1, x2, x3, x4] (w1A x5 x18 x19 x6) (c1A x5 x18 x19 x6 x7) x8) _ _ _ _ ho1 ho2 ho3 ho4 (k0_off1_inb i hc4) (k0_off2_inb i hc4) (k0_off3_inb i hc4) (k0_off4_inb i hc4)).trans (congrArg (put4 l.val (h2A ![x1, x2, x3, x4] (w1A x5 x18 x19 x6) (c1A x5 x18 x19 x6 x7) x8)) hf22)
  iexists _; isplitr; swap; · iexact H23
  ipureintro
  refine (View.read_writes_full _ _ _ _ _).trans ?_
  delta run_B0.sl.v20 run_B0.sl.v24 run_B0.sl.v46 run_B0.sl.v50 run_B0.sl.v72 run_B0.sl.v76 run_B0.sl.v98 run_B0.sl.v102 run_B0.sl.v122 View.readCov
  simp (disch := decide) only [e20, e21, e23, View.readAt_eq_ld, hf1, hf2, hf3, hf4, hf5, hf6, hf7, hf8, hf18, hf19, hf20, hf21, hf22, hf23, ld_whole2, ld_whole3, ld_slab]
  rfl

end Cert.KernelIdeal.Mega

end
-- ==== Proof.KernelIdeal.RunB1.lean ====
/-
  The kernel's body in the rest of the second phase.
-/
module

public import proofs.«01_k».proof.Proof.KernelIdeal.Vals

@[expose] public section

set_option maxRecDepth 16384

noncomputable section

namespace Cert.KernelIdeal.Mega

open Cert.KernelIdeal.Gen Cert.Mega
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg1 : Memref sig .tc .vmem S1000x128 .f32) (harg1 : arg1.IsWhole)
variable (arg2 : Memref sig .tc .vmem S1000x128 .f32) (harg2 : arg2.IsWhole)
variable (arg3 : Memref sig .tc .vmem S1000x128 .f32) (harg3 : arg3.IsWhole)
variable (arg4 : Memref sig .tc .vmem S1000x128 .f32) (harg4 : arg4.IsWhole)
variable (arg5 : Memref sig .tc .vmem S4x128x512 .bf16) (harg5 : arg5.IsWhole)
variable (arg6 : Memref sig .tc .vmem S4x1x512 .f32) (harg6 : arg6.IsWhole)
variable (arg7 : Memref sig .tc .vmem S4x1x512 .f32) (harg7 : arg7.IsWhole)
variable (arg8 : Memref sig .tc .vmem S4x512x512 .bf16) (harg8 : arg8.IsWhole)
variable (arg9 : Memref sig .tc .vmem S4x1x512 .f32) (harg9 : arg9.IsWhole)
variable (arg10 : Memref sig .tc .vmem S4x1x512 .f32) (harg10 : arg10.IsWhole)
variable (arg11 : Memref sig .tc .vmem S4x512x512 .bf16) (harg11 : arg11.IsWhole)
variable (arg12 : Memref sig .tc .vmem S2048x512 .bf16) (harg12 : arg12.IsWhole)
variable (arg13 : Memref sig .tc .vmem S4x1x512 .f32) (harg13 : arg13.IsWhole)
variable (arg14 : Memref sig .tc .vmem S1x512 .f32) (harg14 : arg14.IsWhole)
variable (arg15 : Memref sig .tc .vmem S512x128 .bf16) (harg15 : arg15.IsWhole)
variable (arg16 : Memref sig .tc .vmem S1x128 .f32) (harg16 : arg16.IsWhole)
variable (arg17 : Memref sig .tc .vmem S1000x128 .f32) (harg17 : arg17.IsWhole)
variable (arg18 : Memref sig .tc .vmem S4x1x128 .f32) (harg18 : arg18.IsWhole)
variable (arg19 : Memref sig .tc .vmem S4x128x128 .f32) (harg19 : arg19.IsWhole)
variable (arg20 : Memref sig .tc .vmem S4x128x512 .bf16) (harg20 : arg20.IsWhole)
variable (arg21 : Memref sig .tc .vmem S4x1x512 .bf16) (harg21 : arg21.IsWhole)
variable (arg22 : Memref sig .tc .vmem S4x10x1000x512 .bf16) (harg22 : arg22.IsWhole)
variable (arg23 : Memref sig .tc .vmem S4x2x512 .f32) (harg23 : arg23.IsWhole)
variable (arg24 : Memref sig .tc .vmem S2048x512 .bf16) (harg24 : arg24.IsWhole)
variable (arg25 : Memref sig .tc .vmem S1x512 .bf16) (harg25 : arg25.IsWhole)
variable (arg26 : Memref sig .tc .vmem S4x1x512 .bf16) (harg26 : arg26.IsWhole)

set_option maxHeartbeats 2000000 in
/-- A later point of the second phase. -/
theorem run_B1 (hc0 : ¬cond0_0 i) (hc3 : ¬cond0_3 i) (hc4 : cond0_4 i) (hc5 : ¬cond0_5 i) (hc6 : ¬cond0_6 i) (l : Fin 10) (ho1 : k0_off1 i = ![0, l.val, 0, 0]) (ho2 : k0_off2 i = ![1, l.val, 0, 0]) (ho3 : k0_off3 i = ![2, l.val, 0, 0]) (ho4 : k0_off4 i = ![3, l.val, 0, 0])
    (x1 : Vec F S1000x128 .f32) (x2 : Vec F S1000x128 .f32) (x3 : Vec F S1000x128 .f32) (x4 : Vec F S1000x128 .f32) (x8 : Vec F S4x512x512 .bf16) (x20 : Vec F S4x128x512 .bf16) (x21 : Vec F S4x1x512 .bf16) (x22 : Vec F S4x10x1000x512 .bf16) (x23 : Vec F S4x2x512 .f32) (E : Set ℕ) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg8 fullShare x8
      ∗ owns (c : Thread nD τ) arg20 fullShare x20
      ∗ owns (c : Thread nD τ) arg21 fullShare x21
      ∗ owns (c : Thread nD τ) arg22 fullShare x22
      ∗ owns (c : Thread nD τ) arg23 fullShare x23
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg8 fullShare x8
      ∗ owns (c : Thread nD τ) arg20 fullShare x20
      ∗ owns (c : Thread nD τ) arg21 fullShare x21
      ∗ owns (c : Thread nD τ) arg22 fullShare (put4 l.val (h2A ![x1, x2, x3, x4] x20 x21 x8) x22)
      ∗ owns (c : Thread nD τ) arg23 fullShare (stN ![x1, x2, x3, x4] x20 x21 x8 x23)) -∗ K ⟨⟩))
    ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_kernel_eq_skeleton]; unfold cc0__mega_kernel_skel
  simp only [k0_part5_eq_skeleton, k0_part6_eq_skeleton, k0_part7_eq_skeleton]
  unfold k0_part5_skel k0_part6_skel k0_part7_skel
  unfold owns
  iintro ⟨⟨%f1, %hf1, H1⟩, ⟨%f2, %hf2, H2⟩, ⟨%f3, %hf3, H3⟩, ⟨%f4, %hf4, H4⟩, ⟨%f8, %hf8, H8⟩, ⟨%f20, %hf20, H20⟩, ⟨%f21, %hf21, H21⟩, ⟨%f22, %hf22, H22⟩, ⟨%f23, %hf23, H23⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg20.eq_unread hf20
  obtain rfl := harg21.eq_unread hf21
  obtain rfl := harg22.eq_unread hf22
  obtain rfl := harg23.eq_unread hf23
  sl_exec (disch := first | sl_exact hc0 | sl_exact hc3 | sl_exact hc4 | sl_exact hc5 | sl_exact hc6)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr; · ipureintro; exact harg8.read_unread _
    iexact H8
  isplitl [H20]
  · iexists _; isplitr; · ipureintro; exact harg20.read_unread _
    iexact H20
  isplitl [H21]
  · iexists _; isplitr; · ipureintro; exact harg21.read_unread _
    iexact H21
  isplitl [H22]
  · iexists _; isplitr; swap; · iexact H22
    ipureintro
    simp (disch := decide) only [View.readAt_eq_ld, hf1, hf2, hf3, hf4, hf8, hf20, hf21, hf22, hf23, ld_whole2, ld_whole3, ld_slab]
    exact (read_put4 arg22.view (harg22.unread x22) l.val (h2A ![x1, x2, x3, x4] x20 x21 x8) _ _ _ _ ho1 ho2 ho3 ho4 (k0_off1_inb i hc4) (k0_off2_inb i hc4) (k0_off3_inb i hc4) (k0_off4_inb i hc4)).trans (congrArg (put4 l.val (h2A ![x1, x2, x3, x4] x20 x21 x8)) hf22)
  iexists _; isplitr; swap; · iexact H23
  ipureintro
  refine (View.read_writes_full _ _ _ _ _).trans ?_
  simp (disch := decide) only [View.readAt_eq_ld, hf1, hf2, hf3, hf4, hf8, hf20, hf21, hf22, hf23, ld_whole2, ld_whole3, ld_slab]
  rfl

end Cert.KernelIdeal.Mega

end
-- ==== Proof.KernelIdeal.RunC0.lean ====
/-
  The kernel's body at the third phase's first point.
-/
module

public import proofs.«01_k».proof.Proof.KernelIdeal.Vals

@[expose] public section

set_option maxRecDepth 16384

noncomputable section

namespace Cert.KernelIdeal.Mega

open Cert.KernelIdeal.Gen Cert.Mega
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg1 : Memref sig .tc .vmem S1000x128 .f32) (harg1 : arg1.IsWhole)
variable (arg2 : Memref sig .tc .vmem S1000x128 .f32) (harg2 : arg2.IsWhole)
variable (arg3 : Memref sig .tc .vmem S1000x128 .f32) (harg3 : arg3.IsWhole)
variable (arg4 : Memref sig .tc .vmem S1000x128 .f32) (harg4 : arg4.IsWhole)
variable (arg5 : Memref sig .tc .vmem S4x128x512 .bf16) (harg5 : arg5.IsWhole)
variable (arg6 : Memref sig .tc .vmem S4x1x512 .f32) (harg6 : arg6.IsWhole)
variable (arg7 : Memref sig .tc .vmem S4x1x512 .f32) (harg7 : arg7.IsWhole)
variable (arg8 : Memref sig .tc .vmem S4x512x512 .bf16) (harg8 : arg8.IsWhole)
variable (arg9 : Memref sig .tc .vmem S4x1x512 .f32) (harg9 : arg9.IsWhole)
variable (arg10 : Memref sig .tc .vmem S4x1x512 .f32) (harg10 : arg10.IsWhole)
variable (arg11 : Memref sig .tc .vmem S4x512x512 .bf16) (harg11 : arg11.IsWhole)
variable (arg12 : Memref sig .tc .vmem S2048x512 .bf16) (harg12 : arg12.IsWhole)
variable (arg13 : Memref sig .tc .vmem S4x1x512 .f32) (harg13 : arg13.IsWhole)
variable (arg14 : Memref sig .tc .vmem S1x512 .f32) (harg14 : arg14.IsWhole)
variable (arg15 : Memref sig .tc .vmem S512x128 .bf16) (harg15 : arg15.IsWhole)
variable (arg16 : Memref sig .tc .vmem S1x128 .f32) (harg16 : arg16.IsWhole)
variable (arg17 : Memref sig .tc .vmem S1000x128 .f32) (harg17 : arg17.IsWhole)
variable (arg18 : Memref sig .tc .vmem S4x1x128 .f32) (harg18 : arg18.IsWhole)
variable (arg19 : Memref sig .tc .vmem S4x128x128 .f32) (harg19 : arg19.IsWhole)
variable (arg20 : Memref sig .tc .vmem S4x128x512 .bf16) (harg20 : arg20.IsWhole)
variable (arg21 : Memref sig .tc .vmem S4x1x512 .bf16) (harg21 : arg21.IsWhole)
variable (arg22 : Memref sig .tc .vmem S4x10x1000x512 .bf16) (harg22 : arg22.IsWhole)
variable (arg23 : Memref sig .tc .vmem S4x2x512 .f32) (harg23 : arg23.IsWhole)
variable (arg24 : Memref sig .tc .vmem S2048x512 .bf16) (harg24 : arg24.IsWhole)
variable (arg25 : Memref sig .tc .vmem S1x512 .bf16) (harg25 : arg25.IsWhole)
variable (arg26 : Memref sig .tc .vmem S4x1x512 .bf16) (harg26 : arg26.IsWhole)

set_option maxHeartbeats 2000000 in
/-- The third phase's first point: the output layers are folded, then a block of results is computed. -/
theorem run_C0 (hc0 : ¬cond0_0 i) (hc3 : ¬cond0_3 i) (hc4 : ¬cond0_4 i) (hc5 : cond0_5 i) (hc6 : cond0_6 i) (l : Fin 10) (ho5 : k0_off5 i = ![0, l.val, 0, 0]) (ho6 : k0_off6 i = ![1, l.val, 0, 0]) (ho7 : k0_off7 i = ![2, l.val, 0, 0]) (ho8 : k0_off8 i = ![3, l.val, 0, 0])
    (x9 : Vec F S4x1x512 .f32) (x10 : Vec F S4x1x512 .f32) (x11 : Vec F S4x512x512 .bf16) (x12 : Vec F S2048x512 .bf16) (x13 : Vec F S4x1x512 .f32) (x14 : Vec F S1x512 .f32) (x15 : Vec F S512x128 .bf16) (x16 : Vec F S1x128 .f32) (x17 : Vec F S1000x128 .f32) (x22 : Vec F S4x10x1000x512 .bf16) (x23 : Vec F S4x2x512 .f32) (x24 : Vec F S2048x512 .bf16) (x25 : Vec F S1x512 .bf16) (x26 : Vec F S4x1x512 .bf16) (E : Set ℕ) (K : PUnit → sProp 𝕄) :
    iprop(owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ owns (c : Thread nD τ) arg22 fullShare x22
      ∗ owns (c : Thread nD τ) arg23 fullShare x23
      ∗ owns (c : Thread nD τ) arg24 fullShare x24
      ∗ owns (c : Thread nD τ) arg25 fullShare x25
      ∗ owns (c : Thread nD τ) arg26 fullShare x26
      ∗ (iprop(owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare (outB (blk4 x22 l) (c2A x23 x9 x10) (wcA x12 x11 x23 x9) (bcA x14 x12 x13) x15 x16)
      ∗ owns (c : Thread nD τ) arg22 fullShare x22
      ∗ owns (c : Thread nD τ) arg23 fullShare x23
      ∗ owns (c : Thread nD τ) arg24 fullShare (wcA x12 x11 x23 x9)
      ∗ owns (c : Thread nD τ) arg25 fullShare (bcA x14 x12 x13)
      ∗ owns (c : Thread nD τ) arg26 fullShare (c2A x23 x9 x10)) -∗ K ⟨⟩))
    ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_kernel_eq_skeleton]; unfold cc0__mega_kernel_skel
  simp only [k0_part8_eq_skeleton, k0_part9_eq_skeleton, k0_part10_eq_skeleton, k0_part11_eq_skeleton, k0_part12_eq_skeleton]
  unfold k0_part8_skel k0_part9_skel k0_part10_skel k0_part11_skel k0_part12_skel
  unfold owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f22, %hf22, H22⟩, ⟨%f23, %hf23, H23⟩, ⟨%f24, %hf24, H24⟩, ⟨%f25, %hf25, H25⟩, ⟨%f26, %hf26, H26⟩, Hk⟩
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg22.eq_unread hf22
  obtain rfl := harg23.eq_unread hf23
  obtain rfl := harg24.eq_unread hf24
  obtain rfl := harg25.eq_unread hf25
  obtain rfl := harg26.eq_unread hf26
  sl_exec (disch := first | sl_exact hc0 | sl_exact hc3 | sl_exact hc4 | sl_exact hc5 | sl_exact hc6)
  sl_step
  have e26 : ∀ g, arg26.view.read (Elt F) (arg26.view.writes (Elt F) g (run_C0.sl.H26_4 c arg9 harg9 arg10 harg10 arg11 harg11 arg12 harg12 arg13 harg13 arg14 harg14 arg23 harg23 x9 x10 x11 x12 x13 x14 x23)) = (c2A x23 x9 x10) := by
    intro g
    unfold run_C0.sl.H26_4
    simp (disch := decide) only [View.readAt_eq_ld, hf9, hf10, hf11, hf12, hf13, hf14, hf15, hf16, hf17, hf22, hf23, hf24, hf25, hf26, ld_whole2, ld_whole3, ld_slab]
    exact read_stack4 _ g (fun j => k0_pay15 (slab x23 j) (slab x9 j) (slab x10 j)) _ _ _ _
  have e24 : ∀ g, arg24.view.read (Elt F) (arg24.view.writes (Elt F) g (run_C0.sl.H24_4 c arg9 harg9 arg10 harg10 arg11 harg11 arg12 harg12 arg13 harg13 arg14 harg14 arg23 harg23 x9 x10 x11 x12 x13 x14 x23)) = (wcA x12 x11 x23 x9) := by
    intro g
    unfold run_C0.sl.H24_4
    simp (disch := decide) only [View.readAt_eq_ld, hf9, hf10, hf11, hf12, hf13, hf14, hf15, hf16, hf17, hf22, hf23, hf24, hf25, hf26, ld_whole2, ld_whole3, ld_slab]
    rw [ld_rowBlk x12 0 0 rfl, ld_rowBlk x12 1 512 rfl, ld_rowBlk x12 2 1024 rfl, ld_rowBlk x12 3 1536 rfl]
    exact read_rows4 _ g (fun j => k0_pay65 (k0_pay58 (rowBlk x12 j) (slab x11 j)) (k0_pay62 (slab x23 j) (slab x9 j))) _ _ _ _
  have e25 : ∀ g, arg25.view.read (Elt F) (arg25.view.writes (Elt F) g (run_C0.sl.H25_1 c arg9 harg9 arg10 harg10 arg11 harg11 arg12 harg12 arg13 harg13 arg14 harg14 arg23 harg23 x9 x10 x11 x12 x13 x14 x23)) = (bcA x14 x12 x13) := by
    intro g
    unfold run_C0.sl.H25_1
    simp (disch := decide) only [View.readAt_eq_ld, hf9, hf10, hf11, hf12, hf13, hf14, hf15, hf16, hf17, hf22, hf23, hf24, hf25, hf26, ld_whole2, ld_whole3, ld_slab]
    rw [ld_rowBlk x12 0 0 rfl, ld_rowBlk x12 1 512 rfl, ld_rowBlk x12 2 1024 rfl, ld_rowBlk x12 3 1536 rfl]
    exact View.read_writes_full _ _ _ _ _
  iapply Hk
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro
    refine (View.read_writes_full _ _ _ _ _).trans ?_
    delta run_C0.sl.v21 run_C0.sl.v30 run_C0.sl.v39 run_C0.sl.v48 run_C0.sl.v55 run_C0.sl.v58 View.readCov
    simp (disch := decide) only [e24, e25, e26, View.readAt_eq_ld, hf9, hf10, hf11, hf12, hf13, hf14, hf15, hf16, hf17, hf22, hf23, hf24, hf25, hf26, ld_whole2, ld_whole3, ld_slab]
    rw [ld_blk4 x22 l 0 _ ho5, ld_blk4 x22 l 1 _ ho6, ld_blk4 x22 l 2 _ ho7, ld_blk4 x22 l 3 _ ho8]
    rfl
  isplitl [H22]
  · iexists _; isplitr; · ipureintro; exact harg22.read_unread _
    iexact H22
  isplitl [H23]
  · iexists _; isplitr; · ipureintro; exact harg23.read_unread _
    iexact H23
  isplitl [H24]
  · iexists _; isplitr; swap; · iexact H24
    ipureintro
    exact e24 _
  isplitl [H25]
  · iexists _; isplitr; swap; · iexact H25
    ipureintro
    exact e25 _
  iexists _; isplitr; swap; · iexact H26
  ipureintro
  exact e26 _

end Cert.KernelIdeal.Mega

end
-- ==== Proof.KernelIdeal.RunC1.lean ====
/-
  The kernel's body in the rest of the third phase.
-/
module

public import proofs.«01_k».proof.Proof.KernelIdeal.Vals

@[expose] public section

set_option maxRecDepth 16384

noncomputable section

namespace Cert.KernelIdeal.Mega

open Cert.KernelIdeal.Gen Cert.Mega
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg1 : Memref sig .tc .vmem S1000x128 .f32) (harg1 : arg1.IsWhole)
variable (arg2 : Memref sig .tc .vmem S1000x128 .f32) (harg2 : arg2.IsWhole)
variable (arg3 : Memref sig .tc .vmem S1000x128 .f32) (harg3 : arg3.IsWhole)
variable (arg4 : Memref sig .tc .vmem S1000x128 .f32) (harg4 : arg4.IsWhole)
variable (arg5 : Memref sig .tc .vmem S4x128x512 .bf16) (harg5 : arg5.IsWhole)
variable (arg6 : Memref sig .tc .vmem S4x1x512 .f32) (harg6 : arg6.IsWhole)
variable (arg7 : Memref sig .tc .vmem S4x1x512 .f32) (harg7 : arg7.IsWhole)
variable (arg8 : Memref sig .tc .vmem S4x512x512 .bf16) (harg8 : arg8.IsWhole)
variable (arg9 : Memref sig .tc .vmem S4x1x512 .f32) (harg9 : arg9.IsWhole)
variable (arg10 : Memref sig .tc .vmem S4x1x512 .f32) (harg10 : arg10.IsWhole)
variable (arg11 : Memref sig .tc .vmem S4x512x512 .bf16) (harg11 : arg11.IsWhole)
variable (arg12 : Memref sig .tc .vmem S2048x512 .bf16) (harg12 : arg12.IsWhole)
variable (arg13 : Memref sig .tc .vmem S4x1x512 .f32) (harg13 : arg13.IsWhole)
variable (arg14 : Memref sig .tc .vmem S1x512 .f32) (harg14 : arg14.IsWhole)
variable (arg15 : Memref sig .tc .vmem S512x128 .bf16) (harg15 : arg15.IsWhole)
variable (arg16 : Memref sig .tc .vmem S1x128 .f32) (harg16 : arg16.IsWhole)
variable (arg17 : Memref sig .tc .vmem S1000x128 .f32) (harg17 : arg17.IsWhole)
variable (arg18 : Memref sig .tc .vmem S4x1x128 .f32) (harg18 : arg18.IsWhole)
variable (arg19 : Memref sig .tc .vmem S4x128x128 .f32) (harg19 : arg19.IsWhole)
variable (arg20 : Memref sig .tc .vmem S4x128x512 .bf16) (harg20 : arg20.IsWhole)
variable (arg21 : Memref sig .tc .vmem S4x1x512 .bf16) (harg21 : arg21.IsWhole)
variable (arg22 : Memref sig .tc .vmem S4x10x1000x512 .bf16) (harg22 : arg22.IsWhole)
variable (arg23 : Memref sig .tc .vmem S4x2x512 .f32) (harg23 : arg23.IsWhole)
variable (arg24 : Memref sig .tc .vmem S2048x512 .bf16) (harg24 : arg24.IsWhole)
variable (arg25 : Memref sig .tc .vmem S1x512 .bf16) (harg25 : arg25.IsWhole)
variable (arg26 : Memref sig .tc .vmem S4x1x512 .bf16) (harg26 : arg26.IsWhole)

set_option maxHeartbeats 2000000 in
/-- A later point of the third phase. -/
theorem run_C1 (hc0 : ¬cond0_0 i) (hc3 : ¬cond0_3 i) (hc4 : ¬cond0_4 i) (hc5 : ¬cond0_5 i) (hc6 : cond0_6 i) (l : Fin 10) (ho5 : k0_off5 i = ![0, l.val, 0, 0]) (ho6 : k0_off6 i = ![1, l.val, 0, 0]) (ho7 : k0_off7 i = ![2, l.val, 0, 0]) (ho8 : k0_off8 i = ![3, l.val, 0, 0])
    (x15 : Vec F S512x128 .bf16) (x16 : Vec F S1x128 .f32) (x17 : Vec F S1000x128 .f32) (x22 : Vec F S4x10x1000x512 .bf16) (x24 : Vec F S2048x512 .bf16) (x25 : Vec F S1x512 .bf16) (x26 : Vec F S4x1x512 .bf16) (E : Set ℕ) (K : PUnit → sProp 𝕄) :
    iprop(owns (c : Thread nD τ) arg15 fullShare x15
      ∗ owns (c : Thread nD τ) arg16 fullShare x16
      ∗ owns (c : Thread nD τ) arg17 fullShare x17
      ∗ owns (c : Thread nD τ) arg22 fullShare x22
      ∗ owns (c : Thread nD τ) arg24 fullShare x24
      ∗ owns (c : Thread nD τ) arg25 fullShare x25
      ∗ owns (c : Thread nD τ) arg26 fullShare x26
      ∗ (iprop(owns (c : Thread nD τ) arg15 fullShare x15
      ∗ owns (c : Thread nD τ) arg16 fullShare x16
      ∗ owns (c : Thread nD τ) arg17 fullShare (outB (blk4 x22 l) x26 x24 x25 x15 x16)
      ∗ owns (c : Thread nD τ) arg22 fullShare x22
      ∗ owns (c : Thread nD τ) arg24 fullShare x24
      ∗ owns (c : Thread nD τ) arg25 fullShare x25
      ∗ owns (c : Thread nD τ) arg26 fullShare x26) -∗ K ⟨⟩))
    ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_kernel_eq_skeleton]; unfold cc0__mega_kernel_skel
  simp only [k0_part12_eq_skeleton]
  unfold k0_part12_skel
  unfold owns
  iintro ⟨⟨%f15, %hf15, H15⟩, ⟨%f16, %hf16, H16⟩, ⟨%f17, %hf17, H17⟩, ⟨%f22, %hf22, H22⟩, ⟨%f24, %hf24, H24⟩, ⟨%f25, %hf25, H25⟩, ⟨%f26, %hf26, H26⟩, Hk⟩
  obtain rfl := harg15.eq_unread hf15
  obtain rfl := harg16.eq_unread hf16
  obtain rfl := harg17.eq_unread hf17
  obtain rfl := harg22.eq_unread hf22
  obtain rfl := harg24.eq_unread hf24
  obtain rfl := harg25.eq_unread hf25
  obtain rfl := harg26.eq_unread hf26
  sl_exec (disch := first | sl_exact hc0 | sl_exact hc3 | sl_exact hc4 | sl_exact hc5 | sl_exact hc6)
  sl_step
  iapply Hk
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro
    refine (View.read_writes_full _ _ _ _ _).trans ?_
    simp (disch := decide) only [View.readAt_eq_ld, hf15, hf16, hf17, hf22, hf24, hf25, hf26, ld_whole2, ld_whole3, ld_slab]
    rw [ld_blk4 x22 l 0 _ ho5, ld_blk4 x22 l 1 _ ho6, ld_blk4 x22 l 2 _ ho7, ld_blk4 x22 l 3 _ ho8]
    rfl
  isplitl [H22]
  · iexists _; isplitr; · ipureintro; exact harg22.read_unread _
    iexact H22
  isplitl [H24]
  · iexists _; isplitr; · ipureintro; exact harg24.read_unread _
    iexact H24
  isplitl [H25]
  · iexists _; isplitr; · ipureintro; exact harg25.read_unread _
    iexact H25
  iexists _; isplitr; · ipureintro; exact harg26.read_unread _
  iexact H26

end Cert.KernelIdeal.Mega

end
-- ==== Proof.KernelIdeal.Body.lean ====
/-
  The pipeline's proof data, the body at every point of the grid, and the run of the whole program: what the array
  of results holds at the end, and that the arguments are unchanged.
-/
module

public import proofs.«01_k».proof.Proof.KernelIdeal.State
public import proofs.«01_k».proof.Proof.KernelIdeal.RunA
public import proofs.«01_k».proof.Proof.KernelIdeal.RunB0
public import proofs.«01_k».proof.Proof.KernelIdeal.RunB1
public import proofs.«01_k».proof.Proof.KernelIdeal.RunC0
public import proofs.«01_k».proof.Proof.KernelIdeal.RunC1
public import proofs.«01_k».proof.Proof.Gen.KernelIdeal.Launch
public import proofs.«01_k».proof.Proof.Gen.KernelIdeal.Points

@[expose] public section

set_option maxRecDepth 16384

noncomputable section

namespace Cert.KernelIdeal.Mega

open Cert.KernelIdeal.Gen Cert.Mega
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Memrefs -/

/-- The buffer of window 0 at a point. -/
abbrev ms0_0 (t : Fin cfg0.N) := win0_0.stage (cfg0.slots t 0)
/-- The buffer of window 1 at a point. -/
abbrev ms0_1 (t : Fin cfg0.N) := win0_1.stage (cfg0.slots t 1)
/-- The buffer of window 2 at a point. -/
abbrev ms0_2 (t : Fin cfg0.N) := win0_2.stage (cfg0.slots t 2)
/-- The buffer of window 3 at a point. -/
abbrev ms0_3 (t : Fin cfg0.N) := win0_3.stage (cfg0.slots t 3)
/-- The buffer of window 4 at a point. -/
abbrev ms0_4 (t : Fin cfg0.N) := win0_4.stage (cfg0.slots t 4)
/-- The buffer of window 5 at a point. -/
abbrev ms0_5 (t : Fin cfg0.N) := win0_5.stage (cfg0.slots t 5)
/-- The buffer of window 6 at a point. -/
abbrev ms0_6 (t : Fin cfg0.N) := win0_6.stage (cfg0.slots t 6)
/-- The buffer of window 7 at a point. -/
abbrev ms0_7 (t : Fin cfg0.N) := win0_7.stage (cfg0.slots t 7)
/-- The buffer of window 8 at a point. -/
abbrev ms0_8 (t : Fin cfg0.N) := win0_8.stage (cfg0.slots t 8)
/-- The buffer of window 9 at a point. -/
abbrev ms0_9 (t : Fin cfg0.N) := win0_9.stage (cfg0.slots t 9)
/-- The buffer of window 10 at a point. -/
abbrev ms0_10 (t : Fin cfg0.N) := win0_10.stage (cfg0.slots t 10)
/-- The buffer of window 11 at a point. -/
abbrev ms0_11 (t : Fin cfg0.N) := win0_11.stage (cfg0.slots t 11)
/-- The buffer of window 12 at a point. -/
abbrev ms0_12 (t : Fin cfg0.N) := win0_12.stage (cfg0.slots t 12)
/-- The buffer of window 13 at a point. -/
abbrev ms0_13 (t : Fin cfg0.N) := win0_13.stage (cfg0.slots t 13)
/-- The buffer of window 14 at a point. -/
abbrev ms0_14 (t : Fin cfg0.N) := win0_14.stage (cfg0.slots t 14)
/-- The buffer of window 15 at a point. -/
abbrev ms0_15 (t : Fin cfg0.N) := win0_15.stage (cfg0.slots t 15)
/-- The buffer of window 16 at a point. -/
abbrev ms0_16 (t : Fin cfg0.N) := win0_16.stage (cfg0.slots t 16)
/-- Scratch buffer 0, whole. -/
abbrev sc_0 := (Memref.whole cc0_scratch0 : Memref sig .tc .vmem _ _)
/-- Scratch buffer 1, whole. -/
abbrev sc_1 := (Memref.whole cc0_scratch1 : Memref sig .tc .vmem _ _)
/-- Scratch buffer 2, whole. -/
abbrev sc_2 := (Memref.whole cc0_scratch2 : Memref sig .tc .vmem _ _)
/-- Scratch buffer 3, whole. -/
abbrev sc_3 := (Memref.whole cc0_scratch3 : Memref sig .tc .vmem _ _)
/-- Scratch buffer 4, whole. -/
abbrev sc_4 := (Memref.whole cc0_scratch4 : Memref sig .tc .vmem _ _)
/-- Scratch buffer 5, whole. -/
abbrev sc_5 := (Memref.whole cc0_scratch5 : Memref sig .tc .vmem _ _)
/-- Scratch buffer 6, whole. -/
abbrev sc_6 := (Memref.whole cc0_scratch6 : Memref sig .tc .vmem _ _)
/-- Scratch buffer 7, whole. -/
abbrev sc_7 := (Memref.whole cc0_scratch7 : Memref sig .tc .vmem _ _)
/-- Scratch buffer 8, whole. -/
abbrev sc_8 := (Memref.whole cc0_scratch8 : Memref sig .tc .vmem _ _)

/-- The region's scoped buffers besides the staging buffers, each at some contents. -/
theorem PhiA0_eq (c : Dev nD) : (Pipeline.ΦA spec0 c : sProp 𝕄) = iprop(((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d) ∗ (∃ d, owns (c : Thread nD τ) sc_4 fullShare d) ∗ (∃ d, owns (c : Thread nD τ) sc_5 fullShare d) ∗ (∃ d, owns (c : Thread nD τ) sc_6 fullShare d) ∗ (∃ d, owns (c : Thread nD τ) sc_7 fullShare d) ∗ (∃ d, owns (c : Thread nD τ) sc_8 fullShare d)) ∗ (∃ r, prngReg c r)) := by
  unfold Pipeline.ΦA
  rw [scopedRest0_eq]
  simp only [sc_0, sc_1, sc_2, sc_3, sc_4, sc_5, sc_6, sc_7, sc_8, owns_whole]
  try rfl

/-! ## The proof data -/

/-- The scratch buffers before point `n`: at some contents of which `Inv` says what is known. -/
def PhiS (c : Dev nD) (n : ℕ) : sProp 𝕄 :=
  iprop(∃ a18 a19 a20 a21 a22 a23 a24 a25 a26, ⌜Inv m c n a18 a19 a20 a21 a22 a23 a24 a25 a26⌝
    ∗ owns (c : Thread nD τ) sc_0 fullShare a18
    ∗ owns (c : Thread nD τ) sc_1 fullShare a19
    ∗ owns (c : Thread nD τ) sc_2 fullShare a20
    ∗ owns (c : Thread nD τ) sc_3 fullShare a21
    ∗ owns (c : Thread nD τ) sc_4 fullShare a22
    ∗ owns (c : Thread nD τ) sc_5 fullShare a23
    ∗ owns (c : Thread nD τ) sc_6 fullShare a24
    ∗ owns (c : Thread nD τ) sc_7 fullShare a25
    ∗ owns (c : Thread nD τ) sc_8 fullShare a26
    ∗ (∃ r, prngReg c r))

/-- The proof data: the inputs' buffers hold their blocks; the results' buffer, from point 20 on, its block of the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outV m c (t.val - 20)
    | ⟨_ + 17, h⟩ => absurd h (Nat.not_lt.mpr (Nat.le_add_left 17 _))
  Φ t := PhiS m c t.val
  q _ := fullShare
  owed _ := 0

/-- Each window starts from its array in the launch's memory. -/
theorem A_eq (c : Dev nD) (w : Fin cfg0.W) : (dats m 0 c).A w = V m c (Pipeline.arrRef spec0 w) := by
  dsimp only [dats]
/-- After the body, the output's buffer holds its block of results. -/
theorem after0_16 (c : Dev nD) (t : Fin cfg0.N) : (dats m 0 c).after 16 t = outV m c (t.val - 20) := by dsimp only [dats]
/-- The body leaves input window 0 at its block. -/
theorem after0_0 (c : Dev nD) (t : Fin cfg0.N) : (dats m 0 c).after 0 t = iblk m c 0 t := by dsimp only [dats]
/-- The body finds input window 0 at its block. -/
theorem before0_0 (c : Dev nD) (t : Fin cfg0.N) (d) : (dats m 0 c).before 0 t d = iblk m c 0 t :=
  before0_0_of m (dats m 0 c) (A_eq m c 0) (after0_0 m c) t d
/-- The body hands the buffer of input window 0 back as it found it. -/
theorem leaves0_0 (c : Dev nD) (t : Fin cfg0.N) :
    (dats m 0 c).leavesExact 0 t = owns (c : Thread nD τ) (ms0_0 t) fullShare (iblk m c 0 t) := by
  unfold Dat.leavesExact; rw [show cfg0.idle 0 (grid0.coords t) = false from rfl, after0_0]
/-- The body leaves input window 1 at its block. -/
theorem after0_1 (c : Dev nD) (t : Fin cfg0.N) : (dats m 0 c).after 1 t = iblk m c 1 t := by dsimp only [dats]
/-- The body finds input window 1 at its block. -/
theorem before0_1 (c : Dev nD) (t : Fin cfg0.N) (d) : (dats m 0 c).before 1 t d = iblk m c 1 t :=
  before0_1_of m (dats m 0 c) (A_eq m c 1) (after0_1 m c) t d
/-- The body hands the buffer of input window 1 back as it found it. -/
theorem leaves0_1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after0_1]
/-- The body leaves input window 2 at its block. -/
theorem after0_2 (c : Dev nD) (t : Fin cfg0.N) : (dats m 0 c).after 2 t = iblk m c 2 t := by dsimp only [dats]
/-- The body finds input window 2 at its block. -/
theorem before0_2 (c : Dev nD) (t : Fin cfg0.N) (d) : (dats m 0 c).before 2 t d = iblk m c 2 t :=
  before0_2_of m (dats m 0 c) (A_eq m c 2) (after0_2 m c) t d
/-- The body hands the buffer of input window 2 back as it found it. -/
theorem leaves0_2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after0_2]
/-- The body leaves input window 3 at its block. -/
theorem after0_3 (c : Dev nD) (t : Fin cfg0.N) : (dats m 0 c).after 3 t = iblk m c 3 t := by dsimp only [dats]
/-- The body finds input window 3 at its block. -/
theorem before0_3 (c : Dev nD) (t : Fin cfg0.N) (d) : (dats m 0 c).before 3 t d = iblk m c 3 t :=
  before0_3_of m (dats m 0 c) (A_eq m c 3) (after0_3 m c) t d
/-- The body hands the buffer of input window 3 back as it found it. -/
theorem leaves0_3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after0_3]
/-- The body leaves input window 4 at its block. -/
theorem after0_4 (c : Dev nD) (t : Fin cfg0.N) : (dats m 0 c).after 4 t = iblk m c 4 t := by dsimp only [dats]
/-- The body finds input window 4 at its block. -/
theorem before0_4 (c : Dev nD) (t : Fin cfg0.N) (d) : (dats m 0 c).before 4 t d = iblk m c 4 t :=
  before0_4_of m (dats m 0 c) (A_eq m c 4) (after0_4 m c) t d
/-- The body hands the buffer of input window 4 back as it found it. -/
theorem leaves0_4 (c : Dev nD) (t : Fin cfg0.N) :
    (dats m 0 c).leavesExact 4 t = owns (c : Thread nD τ) (ms0_4 t) fullShare (iblk m c 4 t) := by
  unfold Dat.leavesExact; rw [show cfg0.idle 4 (grid0.coords t) = false from rfl, after0_4]
/-- The body leaves input window 5 at its block. -/
theorem after0_5 (c : Dev nD) (t : Fin cfg0.N) : (dats m 0 c).after 5 t = iblk m c 5 t := by dsimp only [dats]
/-- The body finds input window 5 at its block. -/
theorem before0_5 (c : Dev nD) (t : Fin cfg0.N) (d) : (dats m 0 c).before 5 t d = iblk m c 5 t :=
  before0_5_of m (dats m 0 c) (A_eq m c 5) (after0_5 m c) t d
/-- The body hands the buffer of input window 5 back as it found it. -/
theorem leaves0_5 (c : Dev nD) (t : Fin cfg0.N) :
    (dats m 0 c).leavesExact 5 t = owns (c : Thread nD τ) (ms0_5 t) fullShare (iblk m c 5 t) := by
  unfold Dat.leavesExact; rw [show cfg0.idle 5 (grid0.coords t) = false from rfl, after0_5]
/-- The body leaves input window 6 at its block. -/
theorem after0_6 (c : Dev nD) (t : Fin cfg0.N) : (dats m 0 c).after 6 t = iblk m c 6 t := by dsimp only [dats]
/-- The body finds input window 6 at its block. -/
theorem before0_6 (c : Dev nD) (t : Fin cfg0.N) (d) : (dats m 0 c).before 6 t d = iblk m c 6 t :=
  before0_6_of m (dats m 0 c) (A_eq m c 6) (after0_6 m c) t d
/-- The body hands the buffer of input window 6 back as it found it. -/
theorem leaves0_6 (c : Dev nD) (t : Fin cfg0.N) :
    (dats m 0 c).leavesExact 6 t = owns (c : Thread nD τ) (ms0_6 t) fullShare (iblk m c 6 t) := by
  unfold Dat.leavesExact; rw [show cfg0.idle 6 (grid0.coords t) = false from rfl, after0_6]
/-- The body leaves input window 7 at its block. -/
theorem after0_7 (c : Dev nD) (t : Fin cfg0.N) : (dats m 0 c).after 7 t = iblk m c 7 t := by dsimp only [dats]
/-- The body finds input window 7 at its block. -/
theorem before0_7 (c : Dev nD) (t : Fin cfg0.N) (d) : (dats m 0 c).before 7 t d = iblk m c 7 t :=
  before0_7_of m (dats m 0 c) (A_eq m c 7) (after0_7 m c) t d
/-- The body hands the buffer of input window 7 back as it found it. -/
theorem leaves0_7 (c : Dev nD) (t : Fin cfg0.N) :
    (dats m 0 c).leavesExact 7 t = owns (c : Thread nD τ) (ms0_7 t) fullShare (iblk m c 7 t) := by
  unfold Dat.leavesExact; rw [show cfg0.idle 7 (grid0.coords t) = false from rfl, after0_7]
/-- The body leaves input window 8 at its block. -/
theorem after0_8 (c : Dev nD) (t : Fin cfg0.N) : (dats m 0 c).after 8 t = iblk m c 8 t := by dsimp only [dats]
/-- The body finds input window 8 at its block. -/
theorem before0_8 (c : Dev nD) (t : Fin cfg0.N) (d) : (dats m 0 c).before 8 t d = iblk m c 8 t :=
  before0_8_of m (dats m 0 c) (A_eq m c 8) (after0_8 m c) t d
/-- The body hands the buffer of input window 8 back as it found it. -/
theorem leaves0_8 (c : Dev nD) (t : Fin cfg0.N) :
    (dats m 0 c).leavesExact 8 t = owns (c : Thread nD τ) (ms0_8 t) fullShare (iblk m c 8 t) := by
  unfold Dat.leavesExact; rw [show cfg0.idle 8 (grid0.coords t) = false from rfl, after0_8]
/-- The body leaves input window 9 at its block. -/
theorem after0_9 (c : Dev nD) (t : Fin cfg0.N) : (dats m 0 c).after 9 t = iblk m c 9 t := by dsimp only [dats]
/-- The body finds input window 9 at its block. -/
theorem before0_9 (c : Dev nD) (t : Fin cfg0.N) (d) : (dats m 0 c).before 9 t d = iblk m c 9 t :=
  before0_9_of m (dats m 0 c) (A_eq m c 9) (after0_9 m c) t d
/-- The body hands the buffer of input window 9 back as it found it. -/
theorem leaves0_9 (c : Dev nD) (t : Fin cfg0.N) :
    (dats m 0 c).leavesExact 9 t = owns (c : Thread nD τ) (ms0_9 t) fullShare (iblk m c 9 t) := by
  unfold Dat.leavesExact; rw [show cfg0.idle 9 (grid0.coords t) = false from rfl, after0_9]
/-- The body leaves input window 10 at its block. -/
theorem after0_10 (c : Dev nD) (t : Fin cfg0.N) : (dats m 0 c).after 10 t = iblk m c 10 t := by dsimp only [dats]
/-- The body finds input window 10 at its block. -/
theorem before0_10 (c : Dev nD) (t : Fin cfg0.N) (d) : (dats m 0 c).before 10 t d = iblk m c 10 t :=
  before0_10_of m (dats m 0 c) (A_eq m c 10) (after0_10 m c) t d
/-- The body hands the buffer of input window 10 back as it found it. -/
theorem leaves0_10 (c : Dev nD) (t : Fin cfg0.N) :
    (dats m 0 c).leavesExact 10 t = owns (c : Thread nD τ) (ms0_10 t) fullShare (iblk m c 10 t) := by
  unfold Dat.leavesExact; rw [show cfg0.idle 10 (grid0.coords t) = false from rfl, after0_10]
/-- The body leaves input window 11 at its block. -/
theorem after0_11 (c : Dev nD) (t : Fin cfg0.N) : (dats m 0 c).after 11 t = iblk m c 11 t := by dsimp only [dats]
/-- The body finds input window 11 at its block. -/
theorem before0_11 (c : Dev nD) (t : Fin cfg0.N) (d) : (dats m 0 c).before 11 t d = iblk m c 11 t :=
  before0_11_of m (dats m 0 c) (A_eq m c 11) (after0_11 m c) t d
/-- The body hands the buffer of input window 11 back as it found it. -/
theorem leaves0_11 (c : Dev nD) (t : Fin cfg0.N) :
    (dats m 0 c).leavesExact 11 t = owns (c : Thread nD τ) (ms0_11 t) fullShare (iblk m c 11 t) := by
  unfold Dat.leavesExact; rw [show cfg0.idle 11 (grid0.coords t) = false from rfl, after0_11]
/-- The body leaves input window 12 at its block. -/
theorem after0_12 (c : Dev nD) (t : Fin cfg0.N) : (dats m 0 c).after 12 t = iblk m c 12 t := by dsimp only [dats]
/-- The body finds input window 12 at its block. -/
theorem before0_12 (c : Dev nD) (t : Fin cfg0.N) (d) : (dats m 0 c).before 12 t d = iblk m c 12 t :=
  before0_12_of m (dats m 0 c) (A_eq m c 12) (after0_12 m c) t d
/-- The body hands the buffer of input window 12 back as it found it. -/
theorem leaves0_12 (c : Dev nD) (t : Fin cfg0.N) :
    (dats m 0 c).leavesExact 12 t = owns (c : Thread nD τ) (ms0_12 t) fullShare (iblk m c 12 t) := by
  unfold Dat.leavesExact; rw [show cfg0.idle 12 (grid0.coords t) = false from rfl, after0_12]
/-- The body leaves input window 13 at its block. -/
theorem after0_13 (c : Dev nD) (t : Fin cfg0.N) : (dats m 0 c).after 13 t = iblk m c 13 t := by dsimp only [dats]
/-- The body finds input window 13 at its block. -/
theorem before0_13 (c : Dev nD) (t : Fin cfg0.N) (d) : (dats m 0 c).before 13 t d = iblk m c 13 t :=
  before0_13_of m (dats m 0 c) (A_eq m c 13) (after0_13 m c) t d
/-- The body hands the buffer of input window 13 back as it found it. -/
theorem leaves0_13 (c : Dev nD) (t : Fin cfg0.N) :
    (dats m 0 c).leavesExact 13 t = owns (c : Thread nD τ) (ms0_13 t) fullShare (iblk m c 13 t) := by
  unfold Dat.leavesExact; rw [show cfg0.idle 13 (grid0.coords t) = false from rfl, after0_13]
/-- The body leaves input window 14 at its block. -/
theorem after0_14 (c : Dev nD) (t : Fin cfg0.N) : (dats m 0 c).after 14 t = iblk m c 14 t := by dsimp only [dats]
/-- The body finds input window 14 at its block. -/
theorem before0_14 (c : Dev nD) (t : Fin cfg0.N) (d) : (dats m 0 c).before 14 t d = iblk m c 14 t :=
  before0_14_of m (dats m 0 c) (A_eq m c 14) (after0_14 m c) t d
/-- The body hands the buffer of input window 14 back as it found it. -/
theorem leaves0_14 (c : Dev nD) (t : Fin cfg0.N) :
    (dats m 0 c).leavesExact 14 t = owns (c : Thread nD τ) (ms0_14 t) fullShare (iblk m c 14 t) := by
  unfold Dat.leavesExact; rw [show cfg0.idle 14 (grid0.coords t) = false from rfl, after0_14]
/-- The body leaves input window 15 at its block. -/
theorem after0_15 (c : Dev nD) (t : Fin cfg0.N) : (dats m 0 c).after 15 t = iblk m c 15 t := by dsimp only [dats]
/-- The body finds input window 15 at its block. -/
theorem before0_15 (c : Dev nD) (t : Fin cfg0.N) (d) : (dats m 0 c).before 15 t d = iblk m c 15 t :=
  before0_15_of m (dats m 0 c) (A_eq m c 15) (after0_15 m c) t d
/-- The body hands the buffer of input window 15 back as it found it. -/
theorem leaves0_15 (c : Dev nD) (t : Fin cfg0.N) :
    (dats m 0 c).leavesExact 15 t = owns (c : Thread nD τ) (ms0_15 t) fullShare (iblk m c 15 t) := by
  unfold Dat.leavesExact; rw [show cfg0.idle 15 (grid0.coords t) = false from rfl, after0_15]
/-- Where the results are written back, the buffer holds their block; -/
theorem leaves0_16 (c : Dev nD) (t : Fin cfg0.N) (h : 20 ≤ t.val) :
    (dats m 0 c).leavesExact 16 t = owns (c : Thread nD τ) (ms0_16 t) fullShare (outV m c (t.val - 20)) := by
  unfold Dat.leavesExact; rw [idle_16 t, decide_eq_false (by omega), after0_16]
/-- elsewhere it is handed back as found. -/
theorem leaves0_16_idle (c : Dev nD) (t : Fin cfg0.N) (h : t.val < 20) :
    (dats m 0 c).leavesExact 16 t = iprop(∃ d, owns (c : Thread nD τ) (ms0_16 t) fullShare ((dats m 0 c).before 16 t d)) :=
  Dat.leavesExact_idle (dats m 0 c) 16 t ((idle_16 t).trans (decide_eq_true h)) ((flush_16 t).trans (decide_eq_false (by omega)))

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- Before a point, the scratch buffers hold what the points so far left; -/
theorem phi_castSucc (c : Dev nD) (t : Fin cfg0.N) : (dats m 0 c).Φ t.castSucc = PhiS m c t.val := rfl
/-- after it, what that point leaves. -/
theorem phi_succ (c : Dev nD) (t : Fin cfg0.N) : (dats m 0 c).Φ t.succ = PhiS m c (t.val + 1) := rfl

set_option maxHeartbeats 2000000 in
/-- The body at the grid's first point. -/
theorem body_A0 (c : Dev nD) (t : Fin cfg0.N) (ht0 : t.val = 0) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  have hx : (![iblk m c 0 t, iblk m c 1 t, iblk m c 2 t, iblk m c 3 t] : Fin 4 → Vec F S1000x128 .f32) = xb m c 0 := by
    rw [iblk_x m c t]; rw [if_pos (by omega)]; rw [ht0]
  unfold bodyPre bodyPost bodyAt0
  rw [show (dats m 0 c).owesAt () t.succ = (dats m 0 c).owesAt () t.castSucc from rfl, phi_castSucc, phi_succ,
    leaves0_16_idle m c t (by omega)]
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12, before0_13, leaves0_13, before0_14, leaves0_14, before0_15, leaves0_15,
    iblk_4, iblk_5, iblk_6, iblk_7, iblk_8, iblk_9, iblk_10, iblk_11, iblk_12, iblk_13, iblk_14, iblk_15]
  unfold PhiS
  iintro ⟨⟨%a18, %a19, %a20, %a21, %a22, %a23, %a24, %a25, %a26, %hI, S18, S19, S20, S21, S22, S23, S24, S25, S26, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩⟩
  iapply (run_A0 c (grid0.coords t) _ _ _ _ _ _ _ _ _ _ _ _ _ _ _ _ _ _ _ _ _ _ _ _ _ _ _ _ _ _ _ _ _ _ _ _ _ _ _ _ _ _ _ _ _ _ _ _ _ _ _ _ ((hcond_0 t).mpr (by omega)) ((hcond_1 t).mpr (by omega)) (fun h => absurd ((hcond_2 t).mp h) (by omega)) (fun h => absurd ((hcond_3 t).mp h) (by omega)) (fun h => absurd ((hcond_4 t).mp h) (by omega)) (fun h => absurd ((hcond_5 t).mp h) (by omega)) (fun h => absurd ((hcond_6 t).mp h) (by omega))  (iblk m c 0 t) (iblk m c 1 t) (iblk m c 2 t) (iblk m c 3 t) a18 a19 Set.univ _)
  iframe H1 H2 H3 H4 S18 S19
  iintro ⟨H1, H2, H3, H4, S18, S19⟩
  simp only [hx]
  isplitl [S18 S19 S20 S21 S22 S23 S24 S25 S26 Hg]
  · iexists (mFst (xb m c 0)), (sFst (xb m c 0)), a20, a21, a22, a23, a24, a25, a26
    isplitr; · ipureintro; exact by rw [ht0]; exact Inv.stepA0
    iframe
  iframe Ho H1 H2 H3 H4 H5 H6 H7 H8 H9 H10 H11 H12 H13 H14 H15 H16
  iexists d16; iexact H17

set_option maxHeartbeats 2000000 in
/-- At a later point of the first phase. -/
theorem body_A1 (c : Dev nD) (t : Fin cfg0.N) (ht0 : t.val ≠ 0) (ht1 : t.val < 10) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  have hx : (![iblk m c 0 t, iblk m c 1 t, iblk m c 2 t, iblk m c 3 t] : Fin 4 → Vec F S1000x128 .f32) = xb m c t.val := by
    rw [iblk_x m c t]; rw [if_pos (by omega)]
  unfold bodyPre bodyPost bodyAt0
  rw [show (dats m 0 c).owesAt () t.succ = (dats m 0 c).owesAt () t.castSucc from rfl, phi_castSucc, phi_succ,
    leaves0_16_idle m c t (by omega)]
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12, before0_13, leaves0_13, before0_14, leaves0_14, before0_15, leaves0_15,
    iblk_4, iblk_5, iblk_6, iblk_7, iblk_8, iblk_9, iblk_10, iblk_11, iblk_12, iblk_13, iblk_14, iblk_15]
  unfold PhiS
  iintro ⟨⟨%a18, %a19, %a20, %a21, %a22, %a23, %a24, %a25, %a26, %hI, S18, S19, S20, S21, S22, S23, S24, S25, S26, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩⟩
  iapply (run_A1 c (grid0.coords t) _ _ _ _ _ _ _ _ _ _ _ _ _ _ _ _ _ _ _ _ _ _ _ _ _ _ _ _ _ _ _ _ _ _ _ _ _ _ _ _ _ _ _ _ _ _ _ _ _ _ _ _ ((hcond_0 t).mpr (by omega)) (fun h => absurd ((hcond_1 t).mp h) (by omega)) ((hcond_2 t).mpr (by omega)) (fun h => absurd ((hcond_3 t).mp h) (by omega)) (fun h => absurd ((hcond_4 t).mp h) (by omega)) (fun h => absurd ((hcond_5 t).mp h) (by omega)) (fun h => absurd ((hcond_6 t).mp h) (by omega))  (iblk m c 0 t) (iblk m c 1 t) (iblk m c 2 t) (iblk m c 3 t) a18 a19 Set.univ _)
  iframe H1 H2 H3 H4 S18 S19
  iintro ⟨H1, H2, H3, H4, S18, S19⟩
  simp only [hx]
  isplitl [S18 S19 S20 S21 S22 S23 S24 S25 S26 Hg]
  · iexists (mNxt (xb m c t.val) a18), (sNxt (xb m c t.val) a19), a20, a21, a22, a23, a24, a25, a26
    isplitr; · ipureintro; exact hI.stepA1 ht0 ht1
    iframe
  iframe Ho H1 H2 H3 H4 H5 H6 H7 H8 H9 H10 H11 H12 H13 H14 H15 H16
  iexists d16; iexact H17

set_option maxHeartbeats 2000000 in
/-- At the second phase's first point. -/
theorem body_B0 (c : Dev nD) (t : Fin cfg0.N) (ht0 : t.val = 10) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  have hx : (![iblk m c 0 t, iblk m c 1 t, iblk m c 2 t, iblk m c 3 t] : Fin 4 → Vec F S1000x128 .f32) = xb m c 0 := by
    rw [iblk_x m c t]; rw [if_neg (by omega), if_pos (by omega)]; rw [ht0]
  unfold bodyPre bodyPost bodyAt0
  rw [show (dats m 0 c).owesAt () t.succ = (dats m 0 c).owesAt () t.castSucc from rfl, phi_castSucc, phi_succ,
    leaves0_16_idle m c t (by omega)]
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12, before0_13, leaves0_13, before0_14, leaves0_14, before0_15, leaves0_15,
    iblk_4, iblk_5, iblk_6, iblk_7, iblk_8, iblk_9, iblk_10, iblk_11, iblk_12, iblk_13, iblk_14, iblk_15]
  unfold PhiS
  iintro ⟨⟨%a18, %a19, %a20, %a21, %a22, %a23, %a24, %a25, %a26, %hI, S18, S19, S20, S21, S22, S23, S24, S25, S26, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩⟩
  iapply (run_B0 c (grid0.coords t) _ _ _ _ _ _ _ _ _ _ _ _ _ _ _ _ _ _ _ _ _ _ _ _ _ _ _ _ _ _ _ _ _ _ _ _ _ _ _ _ _ _ _ _ _ _ _ _ _ _ _ _ (fun h => absurd ((hcond_0 t).mp h) (by omega)) ((hcond_3 t).mpr (by omega)) ((hcond_4 t).mpr (by omega)) (fun h => absurd ((hcond_5 t).mp h) (by omega)) (fun h => absurd ((hcond_6 t).mp h) (by omega)) ⟨t.val - 10, by omega⟩ (hoff_1 t (by omega) (by omega)) (hoff_2 t (by omega) (by omega)) (hoff_3 t (by omega) (by omega)) (hoff_4 t (by omega) (by omega)) (iblk m c 0 t) (iblk m c 1 t) (iblk m c 2 t) (iblk m c 3 t) (kW1 m c) (kG1 m c) (kB1 m c) (kW2 m c) a18 a19 a20 a21 a22 a23 Set.univ _)
  iframe H1 H2 H3 H4 H5 H6 H7 H8 S18 S19 S20 S21 S22 S23
  iintro ⟨H1, H2, H3, H4, H5, H6, H7, H8, S18, S19, S20, S21, S22, S23⟩
  simp only [hx]
  simp only [show t.val - 10 = 0 by omega]
  isplitl [S18 S19 S20 S21 S22 S23 S24 S25 S26 Hg]
  · iexists a18, a19, (w1A (kW1 m c) a18 a19 (kG1 m c)), (c1A (kW1 m c) a18 a19 (kG1 m c) (kB1 m c)), (put4 0 (h2A (xb m c 0) (w1A (kW1 m c) a18 a19 (kG1 m c)) (c1A (kW1 m c) a18 a19 (kG1 m c) (kB1 m c)) (kW2 m c)) a22), (stN (xb m c 0) (w1A (kW1 m c) a18 a19 (kG1 m c)) (c1A (kW1 m c) a18 a19 (kG1 m c) (kB1 m c)) (kW2 m c) k0_pay10), a24, a25, a26
    isplitr; · ipureintro; exact by rw [ht0]; exact Inv.stepB0 (ht0 ▸ hI)
    iframe
  iframe Ho H1 H2 H3 H4 H5 H6 H7 H8 H9 H10 H11 H12 H13 H14 H15 H16
  iexists d16; iexact H17

set_option maxHeartbeats 2000000 in
/-- At a later point of the second phase. -/
theorem body_B1 (c : Dev nD) (t : Fin cfg0.N) (ht0 : 11 ≤ t.val) (ht1 : t.val < 20) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  have hx : (![iblk m c 0 t, iblk m c 1 t, iblk m c 2 t, iblk m c 3 t] : Fin 4 → Vec F S1000x128 .f32) = xb m c (t.val - 10) := by
    rw [iblk_x m c t]; rw [if_neg (by omega), if_pos (by omega)]
  unfold bodyPre bodyPost bodyAt0
  rw [show (dats m 0 c).owesAt () t.succ = (dats m 0 c).owesAt () t.castSucc from rfl, phi_castSucc, phi_succ,
    leaves0_16_idle m c t (by omega)]
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12, before0_13, leaves0_13, before0_14, leaves0_14, before0_15, leaves0_15,
    iblk_4, iblk_5, iblk_6, iblk_7, iblk_8, iblk_9, iblk_10, iblk_11, iblk_12, iblk_13, iblk_14, iblk_15]
  unfold PhiS
  iintro ⟨⟨%a18, %a19, %a20, %a21, %a22, %a23, %a24, %a25, %a26, %hI, S18, S19, S20, S21, S22, S23, S24, S25, S26, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩⟩
  iapply (run_B1 c (grid0.coords t) _ _ _ _ _ _ _ _ _ _ _ _ _ _ _ _ _ _ _ _ _ _ _ _ _ _ _ _ _ _ _ _ _ _ _ _ _ _ _ _ _ _ _ _ _ _ _ _ _ _ _ _ (fun h => absurd ((hcond_0 t).mp h) (by omega)) (fun h => absurd ((hcond_3 t).mp h) (by omega)) ((hcond_4 t).mpr (by omega)) (fun h => absurd ((hcond_5 t).mp h) (by omega)) (fun h => absurd ((hcond_6 t).mp h) (by omega)) ⟨t.val - 10, by omega⟩ (hoff_1 t (by omega) (by omega)) (hoff_2 t (by omega) (by omega)) (hoff_3 t (by omega) (by omega)) (hoff_4 t (by omega) (by omega)) (iblk m c 0 t) (iblk m c 1 t) (iblk m c 2 t) (iblk m c 3 t) (kW2 m c) a20 a21 a22 a23 Set.univ _)
  iframe H1 H2 H3 H4 H8 S20 S21 S22 S23
  iintro ⟨H1, H2, H3, H4, H8, S20, S21, S22, S23⟩
  simp only [hx]
  isplitl [S18 S19 S20 S21 S22 S23 S24 S25 S26 Hg]
  · iexists a18, a19, a20, a21, (put4 (t.val - 10) (h2A (xb m c (t.val - 10)) a20 a21 (kW2 m c)) a22), (stN (xb m c (t.val - 10)) a20 a21 (kW2 m c) a23), a24, a25, a26
    isplitr; · ipureintro; exact hI.stepB1 ht0 ht1
    iframe
  iframe Ho H1 H2 H3 H4 H5 H6 H7 H8 H9 H10 H11 H12 H13 H14 H15 H16
  iexists d16; iexact H17

set_option maxHeartbeats 2000000 in
/-- At the third phase's first point. -/
theorem body_C0 (c : Dev nD) (t : Fin cfg0.N) (ht0 : t.val = 20) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  unfold bodyPre bodyPost bodyAt0
  rw [show (dats m 0 c).owesAt () t.succ = (dats m 0 c).owesAt () t.castSucc from rfl, phi_castSucc, phi_succ,
    leaves0_16 m c t (by omega)]
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12, before0_13, leaves0_13, before0_14, leaves0_14, before0_15, leaves0_15,
    iblk_4, iblk_5, iblk_6, iblk_7, iblk_8, iblk_9, iblk_10, iblk_11, iblk_12, iblk_13, iblk_14, iblk_15]
  unfold PhiS
  iintro ⟨⟨%a18, %a19, %a20, %a21, %a22, %a23, %a24, %a25, %a26, %hI, S18, S19, S20, S21, S22, S23, S24, S25, S26, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩⟩
  iapply (run_C0 c (grid0.coords t) _ _ _ _ _ _ _ _ _ _ _ _ _ _ _ _ _ _ _ _ _ _ _ _ _ _ _ _ _ _ _ _ _ _ _ _ _ _ _ _ _ _ _ _ _ _ _ _ _ _ _ _ (fun h => absurd ((hcond_0 t).mp h) (by omega)) (fun h => absurd ((hcond_3 t).mp h) (by omega)) (fun h => absurd ((hcond_4 t).mp h) (by omega)) ((hcond_5 t).mpr (by omega)) ((hcond_6 t).mpr (by omega)) ⟨t.val - 20, by omega⟩ (hoff_5 t (by omega)) (hoff_6 t (by omega)) (hoff_7 t (by omega)) (hoff_8 t (by omega)) (kG2 m c) (kB2 m c) (kFc m c) (kF1 m c) (kbc m c) (kb1 m c) (kF2 m c) (kb2 m c) ((dats m 0 c).before 16 t d16) a22 a23 a24 a25 a26 Set.univ _)
  iframe H9 H10 H11 H12 H13 H14 H15 H16 H17 S22 S23 S24 S25 S26
  iintro ⟨H9, H10, H11, H12, H13, H14, H15, H16, H17, S22, S23, S24, S25, S26⟩
  rw [show (⟨t.val - 20, by omega⟩ : Fin 10) = 0 from Fin.ext (by show t.val - 20 = 0; omega), (show Inv m c 20 a18 a19 a20 a21 a22 a23 a24 a25 a26 from ht0 ▸ hI).outC0, show t.val - 20 = 0 by omega]
  isplitl [S18 S19 S20 S21 S22 S23 S24 S25 S26 Hg]
  · iexists a18, a19, a20, a21, a22, a23, (wcA (kF1 m c) (kFc m c) a23 (kG2 m c)), (bcA (kb1 m c) (kF1 m c) (kbc m c)), (c2A a23 (kG2 m c) (kB2 m c))
    isplitr; · ipureintro; exact by rw [ht0]; exact Inv.stepC0 (ht0 ▸ hI)
    iframe
  iframe Ho H1 H2 H3 H4 H5 H6 H7 H8 H9 H10 H11 H12 H13 H14 H15 H16
  iexact H17

set_option maxHeartbeats 2000000 in
/-- At a later point of the third phase. -/
theorem body_C1 (c : Dev nD) (t : Fin cfg0.N) (ht0 : 21 ≤ t.val) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  unfold bodyPre bodyPost bodyAt0
  rw [show (dats m 0 c).owesAt () t.succ = (dats m 0 c).owesAt () t.castSucc from rfl, phi_castSucc, phi_succ,
    leaves0_16 m c t (by omega)]
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12, before0_13, leaves0_13, before0_14, leaves0_14, before0_15, leaves0_15,
    iblk_4, iblk_5, iblk_6, iblk_7, iblk_8, iblk_9, iblk_10, iblk_11, iblk_12, iblk_13, iblk_14, iblk_15]
  unfold PhiS
  iintro ⟨⟨%a18, %a19, %a20, %a21, %a22, %a23, %a24, %a25, %a26, %hI, S18, S19, S20, S21, S22, S23, S24, S25, S26, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩⟩
  iapply (run_C1 c (grid0.coords t) _ _ _ _ _ _ _ _ _ _ _ _ _ _ _ _ _ _ _ _ _ _ _ _ _ _ _ _ _ _ _ _ _ _ _ _ _ _ _ _ _ _ _ _ _ _ _ _ _ _ _ _ (fun h => absurd ((hcond_0 t).mp h) (by omega)) (fun h => absurd ((hcond_3 t).mp h) (by omega)) (fun h => absurd ((hcond_4 t).mp h) (by omega)) (fun h => absurd ((hcond_5 t).mp h) (by omega)) ((hcond_6 t).mpr (by omega)) ⟨t.val - 20, by omega⟩ (hoff_5 t (by omega)) (hoff_6 t (by omega)) (hoff_7 t (by omega)) (hoff_8 t (by omega)) (kF2 m c) (kb2 m c) ((dats m 0 c).before 16 t d16) a22 a24 a25 a26 Set.univ _)
  iframe H15 H16 H17 S22 S24 S25 S26
  iintro ⟨H15, H16, H17, S22, S24, S25, S26⟩
  rw [hI.outC1 ht0]
  isplitl [S18 S19 S20 S21 S22 S23 S24 S25 S26 Hg]
  · iexists a18, a19, a20, a21, a22, a23, a24, a25, a26
    isplitr; · ipureintro; exact hI.stepC1 ht0
    iframe
  iframe Ho H1 H2 H3 H4 H5 H6 H7 H8 H9 H10 H11 H12 H13 H14 H15 H16
  iexact H17

/-- The body at any point. -/
theorem sound_body (c : Dev nD) (t : Fin cfg0.N) :
    bodyPre m c t ⊢ wp frame (wpE (defs₀ (F := F)) Variants.none c none) Set.univ (bodyAt0 t) (fun _ => bodyPost m c t) := by
  rcases (show t.val = 0 ∨ (t.val ≠ 0 ∧ t.val < 10) ∨ t.val = 10 ∨ (11 ≤ t.val ∧ t.val < 20) ∨ t.val = 20 ∨ 21 ≤ t.val by omega) with
    h | ⟨h, h'⟩ | h | ⟨h, h'⟩ | h | h
  · exact body_A0 m c t h
  · exact body_A1 m c t h h'
  · exact body_B0 m c t h
  · exact body_B1 m c t h h'
  · exact body_C0 m c t h
  · exact body_C1 m c t h

/-- The body table's row at a point's slots is the body there. -/
theorem defs₀_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the launch hands the region is the invariant before the first point; -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%a18, S18⟩, ⟨%a19, S19⟩, ⟨%a20, S20⟩, ⟨%a21, S21⟩, ⟨%a22, S22⟩, ⟨%a23, S23⟩, ⟨%a24, S24⟩, ⟨%a25, S25⟩, ⟨%a26, S26⟩⟩, Hg⟩
  iexists a18, a19, a20, a21, a22, a23, a24, a25, a26
  isplitr; · ipureintro; exact Inv.zero m c a18 a19 a20 a21 a22 a23 a24 a25 a26
  iframe

/-- after the last point it gives the same back. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%a18, %a19, %a20, %a21, %a22, %a23, %a24, %a25, %a26, %hI, S18, S19, S20, S21, S22, S23, S24, S25, S26, Hg⟩
  isplitl [S18 S19 S20 S21 S22 S23 S24 S25 S26]
  · isplitl [S18]; · iexists a18; iexact S18
    isplitl [S19]; · iexists a19; iexact S19
    isplitl [S20]; · iexists a20; iexact S20
    isplitl [S21]; · iexists a21; iexact S21
    isplitl [S22]; · iexists a22; iexact S22
    isplitl [S23]; · iexists a23; iexact S23
    isplitl [S24]; · iexists a24; iexact S24
    isplitl [S25]; · iexists a25; iexact S25
    iexists a26; iexact S26
  iexact Hg

set_option backward.isDefEq.respectTransparency.types false in
/-- Every weakly fair execution of the program ends, with the pipeline's arrays at their last contents and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Mega

end
-- ==== Proof.Frames.lean ====
/-
  The frames of the three programs, and the named constant.
-/
module

public import proofs.«01_k».proof.Defs
public import proofs.«01_k».proof.Proof.Kernel.Body
public import proofs.«01_k».proof.Proof.KernelIdeal.Body
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel ends, with its arguments unchanged and every counter at zero. -/
theorem frame_p : Cert.quiescent_Kernel := fun m ρ _ =>
  θ_run_and (Cert.Kernel.Gen.frame_of m ρ (Cert.Kernel.Mega.dats m) (Cert.Kernel.Mega.A_eq m)
      ((θ_run _ _ _).mono (fun _ h => h.1) (Cert.Kernel.Mega.run_main m ρ)))
    ((θ_run _ _ _).mono (fun _ h => h.2) (Cert.Kernel.Mega.run_main m ρ))

/-- So does the kernel on the extended reals, -/
theorem frame_pi : Cert.quiescent_KernelIdeal := fun m ρ _ =>
  θ_run_and (Cert.KernelIdeal.Gen.frame_of m ρ (Cert.KernelIdeal.Mega.dats m) (Cert.KernelIdeal.Mega.A_eq m)
      ((θ_run _ _ _).mono (fun _ h => h.1) (Cert.KernelIdeal.Mega.run_main m ρ)))
    ((θ_run _ _ _).mono (fun _ h => h.2) (Cert.KernelIdeal.Mega.run_main m ρ))

/-- and the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant the kernel multiplies by is named as the inverse of the number of rows. -/
theorem preserves : Cert.preserves_Kernel_KernelIdeal :=
  IdealRules.named_const.statement Cert.KernelIdeal.κ "inv_n" .f32 0x38D1B717#32 ((10000⁻¹ : ℝ) : EReal) rfl

end Cert.Proof

end
-- ==== Proof.Reals.lean ====
/-
  The problem's mathematics on real numbers: means, variances and normalised rows, and the identities by which the kernel
  folds a normalisation into the weights around it.
-/
module

public import Idealize.ShloMosaic.PureOps.Ideal
public import Idealize.ShloMosaic.Lib.Pointwise

@[expose] public section

noncomputable section

namespace Cert.Fold

open Idealize.ShloMosaic

/-! ## The constants -/

/-- The small number that both programs add to a variance. -/
def eps : ℝ := 10995116 / 1099511627776

/-- It is positive. -/
theorem eps_pos : 0 < eps := by unfold eps; norm_num

/-- The programs' constant 1e-5, read from its bits, is this number. -/
theorem ofBits_eps : Ideal.ofBits .f32 0x3727C5AC#32 = ((eps : ℝ) : EReal) := by
  simp [Ideal.ofBits, Ideal.ieee, eps, -EReal.coe_mul]; norm_num

/-- The constant that the reference divides by, read from its bits, is 10000. -/
theorem ofBits_rows : Ideal.ofBits .f32 0x461C4000#32 = ((10000 : ℝ) : EReal) := by
  simp [Ideal.ofBits, Ideal.ieee, -EReal.coe_mul]; norm_num

/-! ## Extended reals that are real -/

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two reals, as an extended real. -/
theorem coe_max (a b : ℝ) : ((max a b : ℝ) : EReal) = max (a : EReal) (b : EReal) :=
  EReal.coe_strictMono.monotone.map_max

/-- The inverse root of a positive real. -/
theorem rsqrt_pos {r : ℝ} (h : 0 < r) : Ideal.rsqrt (r : EReal) = (((Real.sqrt r)⁻¹ : ℝ) : EReal) := by
  rw [Ideal.rsqrt_coe, if_neg h.le.not_gt, if_neg h.ne']

/-- A product with a real distributes over a sum with a real. -/
theorem add_mul_real (s w : ℝ) (b : EReal) : ((s : EReal) + b) * (w : EReal) = (s : EReal) * w + b * w := by
  induction b using EReal.rec with
  | coe b => rw [← EReal.coe_add, ← EReal.coe_mul, ← EReal.coe_mul, ← EReal.coe_mul, ← EReal.coe_add, add_mul]
  | top =>
    rcases lt_trichotomy w 0 with h | h | h
    · rw [EReal.coe_add_top, EReal.top_mul_coe_of_neg h, ← EReal.coe_mul, EReal.add_bot]
    · subst h; simp
    · rw [EReal.coe_add_top, EReal.top_mul_coe_of_pos h, ← EReal.coe_mul, EReal.coe_add_top]
  | bot =>
    rcases lt_trichotomy w 0 with h | h | h
    · rw [EReal.add_bot, EReal.bot_mul_coe_of_neg h, ← EReal.coe_mul, EReal.coe_add_top]
    · subst h; simp
    · rw [EReal.add_bot, EReal.bot_mul_coe_of_pos h, ← EReal.coe_mul, EReal.add_bot]

/-- An extended real of finite absolute value is real. -/
theorem real_of_abs_lt {x : EReal} (h : max x (-x) < ⊤) : ∃ r : ℝ, x = (r : EReal) := by
  induction x using EReal.rec with
  | coe r => exact ⟨r, rfl⟩
  | top => simp at h
  | bot => simp at h

/-! ## Cutting off below zero -/

/-- What is left above zero of a real and an offset that may be minus infinity. -/
def cut (r : ℝ) (e : EReal) : ℝ := (max ((r : EReal) + e) 0).toReal

/-- Cut off below zero, a real and an offset below infinity are real. -/
theorem cut_eq {e : EReal} (he : e < ⊤) (r : ℝ) : max ((r : EReal) + e) 0 = ((cut r e : ℝ) : EReal) := by
  unfold cut
  induction e using EReal.rec with
  | coe e => rw [← EReal.coe_add, ← EReal.coe_zero, ← coe_max, EReal.toReal_coe]
  | top => exact absurd he (lt_irrefl _)
  | bot => simp

/-- Under an offset of minus infinity nothing is left. -/
theorem cut_bot (r : ℝ) : cut r ⊥ = 0 := by simp [cut]

/-- Under a real offset it is the cut of the sum. -/
theorem cut_coe (r e : ℝ) : cut r (e : EReal) = max (r + e) 0 := by
  rw [← EReal.coe_eq_coe_iff, ← cut_eq (EReal.coe_lt_top e), ← EReal.coe_add, coe_max, EReal.coe_zero]

/-- A real taken from the offset is taken from the real. -/
theorem add_sub_real (a b : ℝ) (e : EReal) : (a : EReal) + (e - (b : EReal)) = ((a - b : ℝ) : EReal) + e := by
  induction e using EReal.rec with
  | coe e => rw [← EReal.coe_sub, ← EReal.coe_add, ← EReal.coe_add]; exact congrArg _ (by ring)
  | top => rw [EReal.top_sub_coe, EReal.coe_add_top, EReal.coe_add_top]
  | bot => rw [EReal.bot_sub, EReal.add_bot, EReal.add_bot]

/-! ## Means and variances of columns of 10000 -/

/-- The mean of a column. -/
def mean (h : Fin 10000 → ℝ) : ℝ := (∑ i, h i) * 10000⁻¹
/-- The variance of a column. -/
def vari (h : Fin 10000 → ℝ) : ℝ := (∑ i, (h i - mean h) * (h i - mean h)) * 10000⁻¹
/-- The factor by which a normalisation scales a column. -/
def scl (g : ℝ) (h : Fin 10000 → ℝ) : ℝ := g * (Real.sqrt (vari h + eps))⁻¹
/-- A normalised column, cut off below zero. -/
def nrm (g : ℝ) (e : EReal) (h : Fin 10000 → ℝ) (i : Fin 10000) : ℝ := cut (scl g h * (h i - mean h)) e

/-- A variance is not negative. -/
theorem vari_nonneg (h : Fin 10000 → ℝ) : 0 ≤ vari h :=
  mul_nonneg (Finset.sum_nonneg fun i _ => mul_self_nonneg _) (by norm_num)

/-- What stands under the root is positive. -/
theorem den_pos (h : Fin 10000 → ℝ) : 0 < vari h + eps := add_pos_of_nonneg_of_pos (vari_nonneg h) eps_pos

/-- With a positive weight, the factor of a normalisation is positive. -/
theorem scl_pos {g : ℝ} (hg : 0 < g) (h : Fin 10000 → ℝ) : 0 < scl g h :=
  mul_pos hg (inv_pos.mpr (Real.sqrt_pos.mpr (den_pos h)))

/-- The variance is the mean of the squares less the square of the mean. -/
theorem vari_eq (h : Fin 10000 → ℝ) : vari h = (∑ i, h i * h i) * 10000⁻¹ - mean h * mean h := by
  unfold vari
  have e : ∀ i, (h i - mean h) * (h i - mean h) = h i * h i - 2 * mean h * h i + mean h * mean h := fun i => by ring
  have hs : ∑ i, h i = 10000 * mean h := by unfold mean; ring
  simp only [e]
  rw [Finset.sum_add_distrib, Finset.sum_sub_distrib, ← Finset.mul_sum, hs, Finset.sum_const, Finset.card_univ, Fintype.card_fin, nsmul_eq_mul]
  push_cast
  ring

/-- A constant added to a column moves its mean, -/
theorem mean_add (h : Fin 10000 → ℝ) (b : ℝ) : mean (fun i => h i + b) = mean h + b := by
  unfold mean
  rw [Finset.sum_add_distrib, Finset.sum_const, Finset.card_univ, Fintype.card_fin, nsmul_eq_mul]
  push_cast
  ring
/-- not its variance, -/
theorem vari_add (h : Fin 10000 → ℝ) (b : ℝ) : vari (fun i => h i + b) = vari h := by
  unfold vari
  simp only [mean_add, add_sub_add_right_eq_sub]
/-- and not what a normalisation makes of it. -/
theorem nrm_add (g : ℝ) (c : EReal) (h : Fin 10000 → ℝ) (b : ℝ) : nrm g c (fun i => h i + b) = nrm g c h := by
  funext i
  unfold nrm scl
  simp only [vari_add, mean_add, add_sub_add_right_eq_sub]

/-! ## The first layer: its moments through the inputs' moments -/

section First
variable {n : ℕ} (x : Fin 10000 → Fin n → ℝ) (w : Fin n → ℝ)

/-- A column of the inputs' product with weights. -/
def lin (i : Fin 10000) : ℝ := ∑ d, x i d * w d

/-- The mean of the products is the product of the means. -/
theorem mean_lin : ∑ d, (∑ i, x i d) * 10000⁻¹ * w d = mean (lin x w) := by
  unfold mean lin
  rw [Finset.sum_comm, Finset.sum_mul]
  refine Finset.sum_congr rfl fun d _ => ?_
  rw [← Finset.sum_mul]; ring

/-- The mean of the products' squares, through the inputs' second moments. -/
theorem sq_lin : ∑ d, (∑ e, (∑ i, x i d * x i e) * 10000⁻¹ * w e) * w d = (∑ i, lin x w i * lin x w i) * 10000⁻¹ := by
  unfold lin
  simp only [Finset.sum_mul, Finset.mul_sum]
  rw [Finset.sum_congr rfl fun d _ => Finset.sum_comm, Finset.sum_comm]
  refine Finset.sum_congr rfl fun i _ => ?_
  rw [Finset.sum_comm]
  exact Finset.sum_congr rfl fun d _ => Finset.sum_congr rfl fun e _ => by ring

/-- The variance as the kernel computes it. -/
theorem vari_lin : ∑ d, (∑ e, (∑ i, x i d * x i e) * 10000⁻¹ * w e) * w d
    - (∑ d, (∑ i, x i d) * 10000⁻¹ * w d) * (∑ d, (∑ i, x i d) * 10000⁻¹ * w d) = vari (lin x w) := by
  rw [sq_lin, mean_lin, vari_eq]

/-- The normalised first layer through the folded weights and offset. -/
theorem nrm_lin (g : ℝ) {b : EReal} (hb : b < ⊤) (i : Fin 10000) :
    max (((∑ d, x i d * (w d * scl g (lin x w)) : ℝ) : EReal) + (b - ((mean (lin x w) * scl g (lin x w) : ℝ) : EReal))) 0
      = ((nrm g b (lin x w) i : ℝ) : EReal) := by
  have e : ∑ d, x i d * (w d * scl g (lin x w)) = lin x w i * scl g (lin x w) := by
    unfold lin
    rw [Finset.sum_mul]
    exact Finset.sum_congr rfl fun d _ => by ring
  rw [e, add_sub_real, cut_eq hb]; unfold nrm
  refine congrArg (fun r => ((cut r b : ℝ) : EReal)) ?_
  ring

end First

/-! ## The second layer: the scale taken out of the cut-off -/

/-- What the kernel keeps of a normalised entry, times a weight that its scale is folded into. -/
theorem nrm_scl {g : ℝ} (hg : 0 < g) {b : EReal} (hb : b < ⊤) (h : Fin 10000 → ℝ) (i : Fin 10000) (w : ℝ) :
    max ((h i : EReal) + (b - ((mean h * scl g h : ℝ) : EReal)) * ((1 / scl g h : ℝ) : EReal)) 0 * ((w * scl g h : ℝ) : EReal)
      = ((nrm g b h i * w : ℝ) : EReal) := by
  have hp := scl_pos hg h
  unfold nrm
  induction b using EReal.rec with
  | coe b =>
    rw [← EReal.coe_sub, ← EReal.coe_mul, ← EReal.coe_add, ← EReal.coe_zero, ← coe_max, ← EReal.coe_mul, cut_coe]
    refine congrArg _ ?_
    have e : scl g h * (h i - mean h) + b = (h i + (b - mean h * scl g h) * (1 / scl g h)) * scl g h := by field_simp; ring
    rw [e, ← zero_mul (scl g h), ← max_mul_of_nonneg _ _ hp.le, zero_mul]
    ring
  | top => exact absurd hb (lt_irrefl _)
  | bot =>
    rw [EReal.bot_sub, EReal.bot_mul_coe_of_pos (one_div_pos.mpr hp), EReal.add_bot, max_eq_right bot_le, zero_mul, cut_bot, zero_mul,
      EReal.coe_zero]

/-! ## A normalisation as it is written out -/

/-- The mean of a column of extended reals. -/
def rmean (H : Fin 10000 → EReal) : EReal := Ideal.div (∑ i, H i) (Ideal.ofBits .f32 0x461C4000#32)
/-- A normalised column of extended reals, cut off below zero. -/
def rnrm (g e : EReal) (H : Fin 10000 → EReal) (i : Fin 10000) : EReal :=
  max (g * (H i - rmean H) * Ideal.rsqrt (Ideal.div (∑ x, (H x - rmean H) * (H x - rmean H)) (Ideal.ofBits .f32 0x461C4000#32)
    + Ideal.ofBits .f32 0x3727C5AC#32) + e) 0

/-- On a real column it is the real normalisation, and an offset of the column drops out. -/
theorem rnrm_eq {H : Fin 10000 → EReal} {r : Fin 10000 → ℝ} {b : ℝ} (h : ∀ i, H i = ((r i + b : ℝ) : EReal)) (g : ℝ) {e : EReal} (he : e < ⊤)
    (i : Fin 10000) : rnrm (g : EReal) e H i = ((nrm g e r i : ℝ) : EReal) := by
  have hm : rmean H = ((mean (fun i => r i + b) : ℝ) : EReal) := by
    unfold rmean mean
    rw [ofBits_rows, Ideal.div_coe (by norm_num)]
    simp only [h, ← coe_sum, ← EReal.coe_mul, one_div]
  have hv : Ideal.div (∑ x, (H x - rmean H) * (H x - rmean H)) (Ideal.ofBits .f32 0x461C4000#32)
      = ((vari (fun i => r i + b) : ℝ) : EReal) := by
    unfold vari
    rw [ofBits_rows, Ideal.div_coe (by norm_num), hm]
    simp only [h, ← coe_sum, ← EReal.coe_sub, ← EReal.coe_mul, one_div]
  unfold rnrm
  rw [hv, hm, h, ofBits_eps, ← nrm_add g e r b]
  simp only [← EReal.coe_add]
  rw [rsqrt_pos (den_pos _)]
  simp only [← EReal.coe_sub, ← EReal.coe_mul]
  rw [cut_eq he]
  unfold nrm scl
  refine congrArg (fun r => ((cut r e : ℝ) : EReal)) ?_
  ring

/-! ## Four blocks of 512 side by side -/

/-- An entry of four rows of 512 put side by side, by its row and its place there. -/
theorem ladder {α : Type*} (f : Fin 4 → Fin 512 → α) (j : Fin 4) (l : Fin 512) :
    (if h₁ : j.val * 512 + l.val < 512 then f 0 ⟨j.val * 512 + l.val, h₁⟩
      else if h₂ : j.val * 512 + l.val - 512 < 512 then f 1 ⟨j.val * 512 + l.val - 512, h₂⟩
      else if h₃ : j.val * 512 + l.val - 512 - 512 < 512 then f 2 ⟨j.val * 512 + l.val - 512 - 512, h₃⟩
      else f 3 ⟨j.val * 512 + l.val - 512 - 512 - 512, by omega⟩) = f j l := by
  have hl := l.isLt
  have fe : ∀ (a b : Fin 4) (x y : Fin 512), a.val = b.val → x.val = y.val → f a x = f b y := fun a b x y h h' => by
    rw [Fin.ext h, Fin.ext h']
  split_ifs with h₁ h₂ h₃
  · exact fe _ _ _ _ (by show 0 = j.val; omega) (by show j.val * 512 + l.val = l.val; omega)
  · exact fe _ _ _ _ (by show 1 = j.val; omega) (by show j.val * 512 + l.val - 512 = l.val; omega)
  · exact fe _ _ _ _ (by show 2 = j.val; omega) (by show j.val * 512 + l.val - 512 - 512 = l.val; omega)
  · exact fe _ _ _ _ (by show 3 = j.val; omega) (by show j.val * 512 + l.val - 512 - 512 - 512 = l.val; omega)

/-- A sum over 2048 entries is the sum over four blocks of 512. -/
theorem sum_four (f : Fin 2048 → EReal) :
    ∑ l, f l = ∑ j : Fin 4, ∑ t : Fin 512, f ⟨j.val * 512 + t.val, by omega⟩ := Fin.sum_univ_tiles 4 512 rfl f

/-- Row `r` of block `l`. -/
def row (l : ℕ) (r : Fin 1000) : Fin 10000 := ⟨(1000 * l + r.val) % 10000, Nat.mod_lt _ (by decide)⟩

/-- A sum over ten blocks of 1000 rows is the sum over the rows. -/
theorem sum_rows (f : Fin 10000 → ℝ) : ∑ l ∈ Finset.range 10, ∑ r : Fin 1000, f (row l r) = ∑ i, f i := by
  rw [Finset.sum_range, Fin.sum_univ_tiles 10 1000 rfl f]
  refine Finset.sum_congr rfl fun l _ => Finset.sum_congr rfl fun r _ => congrArg f (Fin.ext ?_)
  show (1000 * l.val + r.val) % 10000 = l.val * 1000 + r.val
  omega

/-! ## The data -/

/-- The arrays of the problem: real where the sums need it, extended reals where not. -/
structure Data where
  /-- the inputs of the four branches -/
  X : Fin 4 → Fin 10000 → Fin 128 → ℝ
  /-- the first layers' weights -/
  W1 : Fin 4 → Fin 128 → Fin 512 → ℝ
  /-- their offsets -/
  b1 : Fin 4 → Fin 512 → ℝ
  /-- the first normalisations' scales -/
  g1 : Fin 4 → Fin 512 → ℝ
  /-- and offsets -/
  e1 : Fin 4 → Fin 512 → EReal
  /-- the second layers' weights -/
  W2 : Fin 4 → Fin 512 → Fin 512 → ℝ
  /-- their offsets -/
  b2 : Fin 4 → Fin 512 → ℝ
  /-- the second normalisations' scales -/
  g2 : Fin 4 → Fin 512 → ℝ
  /-- and offsets -/
  e2 : Fin 4 → Fin 512 → EReal
  /-- the branches' last weights -/
  Fc : Fin 4 → Fin 512 → Fin 512 → ℝ
  /-- their offsets -/
  bc : Fin 4 → Fin 512 → EReal
  /-- the first output layer's weights, by blocks of 512 rows -/
  F1 : Fin 4 → Fin 512 → Fin 512 → ℝ
  /-- its offset -/
  f1 : Fin 512 → EReal
  /-- the second output layer's weights -/
  F2 : Fin 512 → Fin 128 → EReal
  /-- its offset -/
  f2 : Fin 128 → EReal
  /-- the second scales are positive -/
  pos : ∀ j k, 0 < g2 j k
  /-- the normalisations' offsets are below infinity -/
  lt1 : ∀ j k, e1 j k < ⊤
  /-- in both layers -/
  lt2 : ∀ j k, e2 j k < ⊤

/-- The arrays that a program is given. -/
structure Arrays where
  /-- the inputs of the four branches -/
  x : Fin 4 → FVec Ideal ⟨2, ![10000, 128]⟩ .f32
  /-- the first layers' weights -/
  w1 : FVec Ideal ⟨3, ![4, 128, 512]⟩ .f32
  /-- their offsets -/
  b1 : FVec Ideal ⟨2, ![4, 512]⟩ .f32
  /-- the first normalisations' scales -/
  g1 : FVec Ideal ⟨2, ![4, 512]⟩ .f32
  /-- and offsets -/
  e1 : FVec Ideal ⟨2, ![4, 512]⟩ .f32
  /-- the second layers' weights -/
  w2 : FVec Ideal ⟨3, ![4, 512, 512]⟩ .f32
  /-- their offsets -/
  b2 : FVec Ideal ⟨2, ![4, 512]⟩ .f32
  /-- the second normalisations' scales -/
  g2 : FVec Ideal ⟨2, ![4, 512]⟩ .f32
  /-- and offsets -/
  e2 : FVec Ideal ⟨2, ![4, 512]⟩ .f32
  /-- the branches' last weights -/
  fc : FVec Ideal ⟨3, ![4, 512, 512]⟩ .f32
  /-- their offsets -/
  bc : FVec Ideal ⟨2, ![4, 512]⟩ .f32
  /-- the first output layer's weights -/
  F1 : FVec Ideal ⟨2, ![2048, 512]⟩ .f32
  /-- its offset -/
  f1 : FVec Ideal ⟨1, ![512]⟩ .f32
  /-- the second output layer's weights -/
  F2 : FVec Ideal ⟨2, ![512, 128]⟩ .f32
  /-- its offset -/
  f2 : FVec Ideal ⟨1, ![128]⟩ .f32

/-- The arrays hold the data. -/
structure Arrays.Is (A : Arrays) (D : Data) : Prop where
  x : ∀ j i d, A.x j (ix2 i d) = ((D.X j i d : ℝ) : EReal)
  w1 : ∀ j d k, A.w1 (ix3 j d k) = ((D.W1 j d k : ℝ) : EReal)
  b1 : ∀ j k, A.b1 (ix2 j k) = ((D.b1 j k : ℝ) : EReal)
  g1 : ∀ j k, A.g1 (ix2 j k) = ((D.g1 j k : ℝ) : EReal)
  e1 : ∀ j k, A.e1 (ix2 j k) = D.e1 j k
  w2 : ∀ j l k, A.w2 (ix3 j l k) = ((D.W2 j l k : ℝ) : EReal)
  b2 : ∀ j k, A.b2 (ix2 j k) = ((D.b2 j k : ℝ) : EReal)
  g2 : ∀ j k, A.g2 (ix2 j k) = ((D.g2 j k : ℝ) : EReal)
  e2 : ∀ j k, A.e2 (ix2 j k) = D.e2 j k
  fc : ∀ j l x, A.fc (ix3 j l x) = ((D.Fc j l x : ℝ) : EReal)
  bc : ∀ j x, A.bc (ix2 j x) = D.bc j x
  F1 : ∀ (j : Fin 4) (x k : Fin 512), A.F1 (ix2 ⟨j.val * 512 + x.val, by omega⟩ k) = ((D.F1 j x k : ℝ) : EReal)
  f1 : ∀ k, A.f1 (ix1 k) = D.f1 k
  F2 : ∀ k o, A.F2 (ix2 k o) = D.F2 k o
  f2 : ∀ o, A.f2 (ix1 o) = D.f2 o

/-- An entry is finite. -/
def Finite (x : EReal) : Prop := max x (-x) < ⊤

/-- A finite entry is its real part. -/
theorem Finite.coe {x : EReal} (h : Finite x) : x = ((x.toReal : ℝ) : EReal) := by
  obtain ⟨r, rfl⟩ := real_of_abs_lt h
  rw [EReal.toReal_coe]

/-- The arrays are finite where the sums need it, the second scales are positive, and the
normalisations' offsets are below infinity. -/
structure Arrays.Tame (A : Arrays) : Prop where
  x : ∀ j i, Finite (A.x j i)
  w1 : ∀ i, Finite (A.w1 i)
  b1 : ∀ i, Finite (A.b1 i)
  g1 : ∀ i, Finite (A.g1 i)
  e1 : ∀ i, A.e1 i < ⊤
  w2 : ∀ i, Finite (A.w2 i)
  b2 : ∀ i, Finite (A.b2 i)
  g2 : ∀ i, Finite (A.g2 i)
  e2 : ∀ i, A.e2 i < ⊤
  fc : ∀ i, Finite (A.fc i)
  F1 : ∀ i, Finite (A.F1 i)
  pos : ∀ i, 0 < A.g2 i

/-- Such arrays hold some data. -/
theorem Arrays.Tame.data {A : Arrays} (h : A.Tame) : ∃ D, A.Is D :=
  ⟨{ X := fun j i d => (A.x j (ix2 i d)).toReal
     W1 := fun j d k => (A.w1 (ix3 j d k)).toReal
     b1 := fun j k => (A.b1 (ix2 j k)).toReal
     g1 := fun j k => (A.g1 (ix2 j k)).toReal
     e1 := fun j k => A.e1 (ix2 j k)
     W2 := fun j l k => (A.w2 (ix3 j l k)).toReal
     b2 := fun j k => (A.b2 (ix2 j k)).toReal
     g2 := fun j k => (A.g2 (ix2 j k)).toReal
     e2 := fun j k => A.e2 (ix2 j k)
     Fc := fun j l x => (A.fc (ix3 j l x)).toReal
     bc := fun j x => A.bc (ix2 j x)
     F1 := fun j x k => (A.F1 (ix2 ⟨j.val * 512 + x.val, by omega⟩ k)).toReal
     f1 := fun k => A.f1 (ix1 k)
     F2 := fun k o => A.F2 (ix2 k o)
     f2 := fun o => A.f2 (ix1 o)
     pos := fun j k => by
       have hp := h.pos (ix2 j k)
       rw [(h.g2 (ix2 j k)).coe] at hp
       exact EReal.coe_pos.mp hp
     lt1 := fun j k => h.e1 _
     lt2 := fun j k => h.e2 _ },
   { x := fun j i d => (h.x j _).coe
     w1 := fun j d k => (h.w1 _).coe
     b1 := fun j k => (h.b1 _).coe
     g1 := fun j k => (h.g1 _).coe
     e1 := fun j k => rfl
     w2 := fun j l k => (h.w2 _).coe
     b2 := fun j k => (h.b2 _).coe
     g2 := fun j k => (h.g2 _).coe
     e2 := fun j k => rfl
     fc := fun j l x => (h.fc _).coe
     bc := fun j x => rfl
     F1 := fun j x k => (h.F1 _).coe
     f1 := fun k => rfl
     F2 := fun k o => rfl
     f2 := fun o => rfl }⟩

namespace Data
variable (D : Data)

/-- The first layer's column, less its offset. -/
def L1 (j : Fin 4) (k : Fin 512) : Fin 10000 → ℝ := lin (D.X j) (fun d => D.W1 j d k)
/-- The same, normalised. -/
def Z1 (j : Fin 4) (k : Fin 512) : Fin 10000 → ℝ := nrm (D.g1 j k) (D.e1 j k) (D.L1 j k)
/-- The second layer's column, less its offset. -/
def L2 (j : Fin 4) (k : Fin 512) (i : Fin 10000) : ℝ := ∑ l, D.Z1 j l i * D.W2 j l k
/-- The same, normalised. -/
def Z2 (j : Fin 4) (k : Fin 512) : Fin 10000 → ℝ := nrm (D.g2 j k) (D.e2 j k) (D.L2 j k)
/-- A branch's share of the first output layer, less its offset. -/
def P (j : Fin 4) (i : Fin 10000) (k : Fin 512) : ℝ := ∑ l, D.Z2 j l i * ∑ x, D.Fc j l x * D.F1 j x k
/-- The offsets' share of the first output layer. -/
def Q (k : Fin 512) : EReal := D.f1 k + ∑ j, ∑ x, D.bc j x * (D.F1 j x k : EReal)
/-- The result. -/
def out (i : Fin 10000) (o : Fin 128) : EReal :=
  ∑ k, max ((∑ j, (D.P j i k : EReal)) + D.Q k) 0 * D.F2 k o + D.f2 o

/-- A branch's share with its offset, as the reference takes it. -/
theorem share (j : Fin 4) (i : Fin 10000) (k : Fin 512) :
    ∑ x, ((∑ l, (D.Z2 j l i : EReal) * (D.Fc j l x : EReal)) + D.bc j x) * (D.F1 j x k : EReal)
      = (D.P j i k : EReal) + ∑ x, D.bc j x * (D.F1 j x k : EReal) := by
  have e : ∀ x, (∑ l, (D.Z2 j l i : EReal) * (D.Fc j l x : EReal)) = ((∑ l, D.Z2 j l i * D.Fc j l x : ℝ) : EReal) := fun x => by
    rw [coe_sum]; simp only [EReal.coe_mul]
  simp only [e]
  simp only [add_mul_real, Finset.sum_add_distrib, ← EReal.coe_mul]
  rw [← coe_sum]
  congr 2
  unfold P
  simp only [Finset.mul_sum, Finset.sum_mul]
  rw [Finset.sum_comm]
  exact Finset.sum_congr rfl fun l _ => Finset.sum_congr rfl fun x _ => by ring

end Data

end Cert.Fold

end
-- ==== Proof.RefValue.lean ====
/-
  The reference's result entry by entry on the extended reals, and that it is the problem's result.
-/
module

public import proofs.«01_k».proof.Proof.Reals
public import proofs.«01_k».proof.Proof.Gen.ReferenceIdeal.Run

@[expose] public section
set_option maxRecDepth 16384
noncomputable section
namespace Cert.ReferenceIdeal.Value
open Cert.ReferenceIdeal Cert.ReferenceIdeal.Gen Cert.Fold
open Idealize.ShloMosaic Idealize.ShloMosaic.TcCoe Idealize.SL.Sem Idealize.ShloMosaic.StableHlo

variable (V0 : Valuation τ sig (Elt Ideal))

/-! ## The arguments -/

/-- The inputs of the four branches. -/
def aX : Fin 4 → FVec Ideal S10000x128 .f32 :=
  ![V0 (Proc.devRef .tc main_arg0), V0 (Proc.devRef .tc main_arg1), V0 (Proc.devRef .tc main_arg2), V0 (Proc.devRef .tc main_arg3)]
/-- The first layers' weights. -/
abbrev a12 : FVec Ideal S4x128x512 .f32 := V0 (Proc.devRef .tc main_arg12)
/-- Their offsets. -/
abbrev a13 : FVec Ideal S4x512 .f32 := V0 (Proc.devRef .tc main_arg13)
/-- The first normalisations' scales. -/
abbrev a14 : FVec Ideal S4x512 .f32 := V0 (Proc.devRef .tc main_arg14)
/-- Their offsets. -/
abbrev a15 : FVec Ideal S4x512 .f32 := V0 (Proc.devRef .tc main_arg15)
/-- The second layers' weights. -/
abbrev a16 : FVec Ideal S4x512x512 .f32 := V0 (Proc.devRef .tc main_arg16)
/-- Their offsets. -/
abbrev a17 : FVec Ideal S4x512 .f32 := V0 (Proc.devRef .tc main_arg17)
/-- The second normalisations' scales. -/
abbrev a18 : FVec Ideal S4x512 .f32 := V0 (Proc.devRef .tc main_arg18)
/-- Their offsets. -/
abbrev a19 : FVec Ideal S4x512 .f32 := V0 (Proc.devRef .tc main_arg19)
/-- The branches' last weights. -/
abbrev a20 : FVec Ideal S4x512x512 .f32 := V0 (Proc.devRef .tc main_arg20)
/-- Their offsets. -/
abbrev a21 : FVec Ideal S4x512 .f32 := V0 (Proc.devRef .tc main_arg21)
/-- The first output layer's weights. -/
abbrev a22 : FVec Ideal S2048x512 .f32 := V0 (Proc.devRef .tc main_arg22)
/-- Its offset. -/
abbrev a23 : FVec Ideal S512 .f32 := V0 (Proc.devRef .tc main_arg23)
/-- The second output layer's weights. -/
abbrev a24 : FVec Ideal S512x128 .f32 := V0 (Proc.devRef .tc main_arg24)
/-- Its offset. -/
abbrev a25 : FVec Ideal S128 .f32 := V0 (Proc.devRef .tc main_arg25)

/-! ## The layers, entry by entry -/

/-- The first layers' columns. -/
def H1 : Fin 4 → FVec Ideal S10000x512 .f32 := ![res_main_v23 V0, res_main_v107 V0, res_main_v191 V0, res_main_v275 V0]
/-- The second layers' columns. -/
def H2 : Fin 4 → FVec Ideal S10000x512 .f32 := ![res_main_v53 V0, res_main_v137 V0, res_main_v221 V0, res_main_v305 V0]

/-- The first layer is the inputs' product with its weights, and its offset. -/
theorem H1_at (j : Fin 4) (i : Fin 10000) (k : Fin 512) :
    H1 V0 j (ix2 i k) = ∑ d, aX V0 j (ix2 i d) * a12 V0 (ix3 j d k) + a13 V0 (ix2 j k) := by
  match j with
  | 0 => show res_main_v23 V0 (ix2 i k) = _; pointwise [res_main_v23]; rfl
  | 1 => show res_main_v107 V0 (ix2 i k) = _; pointwise [res_main_v107]; rfl
  | 2 => show res_main_v191 V0 (ix2 i k) = _; pointwise [res_main_v191]; rfl
  | 3 => show res_main_v275 V0 (ix2 i k) = _; pointwise [res_main_v275]; rfl

/-- The second layer is the normalised first layer's product with its weights, and its offset. -/
theorem H2_at (j : Fin 4) (i : Fin 10000) (k : Fin 512) :
    H2 V0 j (ix2 i k) = ∑ l, rnrm (a14 V0 (ix2 j l)) (a15 V0 (ix2 j l)) (fun i => H1 V0 j (ix2 i l)) i * a16 V0 (ix3 j l k)
      + a17 V0 (ix2 j k) := by
  match j with
  | 0 => show res_main_v53 V0 (ix2 i k) = _; pointwise [res_main_v53, res_main_v26, res_main_v29]; rfl
  | 1 => show res_main_v137 V0 (ix2 i k) = _; pointwise [res_main_v137, res_main_v110, res_main_v113]; rfl
  | 2 => show res_main_v221 V0 (ix2 i k) = _; pointwise [res_main_v221, res_main_v194, res_main_v197]; rfl
  | 3 => show res_main_v305 V0 (ix2 i k) = _; pointwise [res_main_v305, res_main_v278, res_main_v281]; rfl

/-- The four branches side by side. -/
def cat : FVec Ideal S10000x2048 .f32 := res_main_v336 V0

/-- Each is the normalised second layer's product with its last weights, and the offset. -/
theorem cat_at (j : Fin 4) (i : Fin 10000) (l : Fin 512) :
    cat V0 (ix2 i ⟨j.val * 512 + l.val, by omega⟩)
      = ∑ x, rnrm (a18 V0 (ix2 j x)) (a19 V0 (ix2 j x)) (fun i => H2 V0 j (ix2 i x)) i * a20 V0 (ix3 j x l) + a21 V0 (ix2 j l) := by
  rw [← ladder (fun j l => ∑ x, rnrm (a18 V0 (ix2 j x)) (a19 V0 (ix2 j x)) (fun i => H2 V0 j (ix2 i x)) i * a20 V0 (ix3 j x l) + a21 V0 (ix2 j l)) j l]
  pointwise [cat, res_main_v336, res_main_v56, res_main_v59, res_main_v140, res_main_v143, res_main_v224, res_main_v227, res_main_v308, res_main_v311]
  rfl

/-- The result array. -/
def res : FVec Ideal S10000x128 .f32 :=
  addf (Host.dotGeneral dot_S10000x512_S512x128_S10000x128_1_0_0_1_n_n none (maximumf (addf (Host.dotGeneral dot_S10000x2048_S2048x512_S10000x512_1_0_0_1_n_n none (cat V0) (a22 V0)) (broadcastInDim S10000x512 ![0, 1] bcast_S1x512_S10000x512_0_1 (broadcastInDim S1x512 ![1] bcast_S512_S1x512_1 (a23 V0)))) (broadcastInDim S10000x512 ![] bcast_S_S10000x512 (constant S_ .f32 0x00000000#32))) (a24 V0)) (broadcastInDim S10000x128 ![0, 1] bcast_S1x128_S10000x128_0_1 (broadcastInDim S1x128 ![1] bcast_S128_S1x128_1 (a25 V0)))

/-- The result is the two output layers on the four branches. -/
theorem res_at (i : Fin 10000) (o : Fin 128) :
    res V0 (ix2 i o) = ∑ k, max (∑ l, cat V0 (ix2 i l) * a22 V0 (ix2 l k) + a23 V0 (ix1 k)) 0 * a24 V0 (ix2 k o) + a25 V0 (ix1 o) := by
  pointwise [res]

/-! ## The problem's result -/

variable (D : Data)

/-- The reference's arguments. -/
def args : Arrays :=
  ⟨aX V0, a12 V0, a13 V0, a14 V0, a15 V0, a16 V0, a17 V0, a18 V0, a19 V0, a20 V0, a21 V0, a22 V0, a23 V0, a24 V0, a25 V0⟩

/-- The reference's arguments hold the data. -/
structure Holds : Prop where
  x : ∀ j i d, aX V0 j (ix2 i d) = ((D.X j i d : ℝ) : EReal)
  w1 : ∀ j d k, a12 V0 (ix3 j d k) = ((D.W1 j d k : ℝ) : EReal)
  b1 : ∀ j k, a13 V0 (ix2 j k) = ((D.b1 j k : ℝ) : EReal)
  g1 : ∀ j k, a14 V0 (ix2 j k) = ((D.g1 j k : ℝ) : EReal)
  e1 : ∀ j k, a15 V0 (ix2 j k) = D.e1 j k
  w2 : ∀ j l k, a16 V0 (ix3 j l k) = ((D.W2 j l k : ℝ) : EReal)
  b2 : ∀ j k, a17 V0 (ix2 j k) = ((D.b2 j k : ℝ) : EReal)
  g2 : ∀ j k, a18 V0 (ix2 j k) = ((D.g2 j k : ℝ) : EReal)
  e2 : ∀ j k, a19 V0 (ix2 j k) = D.e2 j k
  fc : ∀ j l x, a20 V0 (ix3 j l x) = ((D.Fc j l x : ℝ) : EReal)
  bc : ∀ j x, a21 V0 (ix2 j x) = D.bc j x
  F1 : ∀ (j : Fin 4) (x k : Fin 512), a22 V0 (ix2 ⟨j.val * 512 + x.val, by omega⟩ k) = ((D.F1 j x k : ℝ) : EReal)
  f1 : ∀ k, a23 V0 (ix1 k) = D.f1 k
  F2 : ∀ k o, a24 V0 (ix2 k o) = D.F2 k o
  f2 : ∀ o, a25 V0 (ix1 o) = D.f2 o

variable {V0 D}

/-- So they do when they are arrays that hold it. -/
theorem Holds.of (h : (args V0).Is D) : Holds V0 D :=
  ⟨h.x, h.w1, h.b1, h.g1, h.e1, h.w2, h.b2, h.g2, h.e2, h.fc, h.bc, h.F1, h.f1, h.F2, h.f2⟩

variable (h : Holds V0 D)
include h

/-- The first layer's columns, -/
theorem H1_eq (j : Fin 4) (k : Fin 512) (i : Fin 10000) : H1 V0 j (ix2 i k) = ((D.L1 j k i + D.b1 j k : ℝ) : EReal) := by
  rw [H1_at]
  simp only [h.x, h.w1, h.b1, ← EReal.coe_mul, ← coe_sum, ← EReal.coe_add]; rfl

/-- and the second's. -/
theorem H2_eq (j : Fin 4) (k : Fin 512) (i : Fin 10000) : H2 V0 j (ix2 i k) = ((D.L2 j k i + D.b2 j k : ℝ) : EReal) := by
  rw [H2_at]
  simp only [h.g1, h.e1, h.w2, h.b2, rnrm_eq (H1_eq h j _) _ (D.lt1 j _), ← EReal.coe_mul, ← coe_sum, ← EReal.coe_add]; rfl

/-- The reference computes the problem's result. -/
theorem res_eq (i : Fin 10000) (o : Fin 128) : res V0 (ix2 i o) = D.out i o := by
  rw [res_at]
  simp only [sum_four, cat_at, h.g2, h.e2, h.fc, h.bc, h.F1, h.f1, h.F2, h.f2, rnrm_eq (H2_eq h _ _) _ (D.lt2 _ _)]
  unfold Data.out
  refine congrArg (· + D.f2 o) (Finset.sum_congr rfl fun k _ => congrArg (fun z => max z 0 * D.F2 k o) ?_)
  have e := fun j => D.share j i k
  unfold Data.Z2 at e
  simp only [e, Finset.sum_add_distrib]
  rw [Data.Q, add_assoc, add_comm (D.f1 k)]

end Cert.ReferenceIdeal.Value
end
-- ==== Proof.KernelIdeal.Closed.lean ====
/-
  The kernel's payloads entry by entry on the extended reals, as sums over what they read.
-/
module

public import proofs.«01_k».proof.Proof.KernelIdeal.State
public import proofs.«01_k».proof.Proof.Reals
public import Idealize.ShloMosaic.Lib.Pointwise

@[expose] public section
set_option maxRecDepth 16384
noncomputable section
namespace Cert.KernelIdeal.Mega
open Cert.KernelIdeal.Gen Cert.Mega
open Idealize.ShloMosaic Idealize.ShloMosaic.TcCoe Idealize.SL.Sem

/-- The first block's sums of rows. -/
theorem mFst_at (x : Fin 4 → FVec Ideal S1000x128 .f32) (j : Fin 4) (d : Fin 128) :
    mFst (F := Ideal) x (ix3 j 0 d) = ∑ r : Fin 1000, x j (ix2 r d) := by
  pointwise [mFst, k0_pay3, k0_pay1]
  fin_cases j <;> simp

/-- The next block's. -/
theorem mNxt_at (x : Fin 4 → FVec Ideal S1000x128 .f32) (a : FVec Ideal S4x1x128 .f32) (j : Fin 4) (d : Fin 128) :
    mNxt (F := Ideal) x a (ix3 j 0 d) = a (ix3 j 0 d) + ∑ r : Fin 1000, x j (ix2 r d) := by
  pointwise [mNxt, k0_pay5, k0_pay1]
  fin_cases j <;> simp

/-- The first block's sums of products. -/
theorem sFst_at (x : Fin 4 → FVec Ideal S1000x128 .f32) (j : Fin 4) (d e : Fin 128) :
    sFst (F := Ideal) x (ix3 j d e) = ∑ r : Fin 1000, x j (ix2 r d) * x j (ix2 r e) := by
  pointwise [sFst, k0_pay4, k0_pay2]
  fin_cases j <;> simp

/-- The next block's. -/
theorem sNxt_at (x : Fin 4 → FVec Ideal S1000x128 .f32) (a : FVec Ideal S4x128x128 .f32) (j : Fin 4) (d e : Fin 128) :
    sNxt (F := Ideal) x a (ix3 j d e) = a (ix3 j d e) + ∑ r : Fin 1000, x j (ix2 r d) * x j (ix2 r e) := by
  pointwise [sNxt, k0_pay6, k0_pay2]
  fin_cases j <;> simp

/-- The first layer's offsets. -/
theorem c1A_at (W : FVec Ideal S4x128x512 .bf16) (M : FVec Ideal S4x1x128 .f32) (S : FVec Ideal S4x128x128 .f32) (G B : FVec Ideal S4x1x512 .f32)
    (j : Fin 4) (k : Fin 512) : c1A (F := Ideal) W M S G B (ix3 j 0 k)
      = B (ix3 j 0 k) - (∑ x, M (ix3 j 0 x) * Named.named (F := Ideal) κ "inv_n" (φ := .f32) 953267991#32 * W (ix3 j x k))
        * (G (ix3 j 0 k) * Ideal.rsqrt (∑ x, (∑ y, S (ix3 j x y) * Named.named (F := Ideal) κ "inv_n" (φ := .f32) 953267991#32 * W (ix3 j y k)) * W (ix3 j x k)
          - (∑ x, M (ix3 j 0 x) * Named.named (F := Ideal) κ "inv_n" (φ := .f32) 953267991#32 * W (ix3 j x k))
            * (∑ x, M (ix3 j 0 x) * Named.named (F := Ideal) κ "inv_n" (φ := .f32) 953267991#32 * W (ix3 j x k)) + Ideal.ofBits .f32 925353388#32)) := by
  pointwise [c1A, stack, slab, c1P, k0_pay23, k0_pay21, k0_pay22, k0_pay20, k0_pay19]

/-- The first layer's scaled weights. -/
theorem w1A_at (W : FVec Ideal S4x128x512 .bf16) (M : FVec Ideal S4x1x128 .f32) (S : FVec Ideal S4x128x128 .f32) (G B : FVec Ideal S4x1x512 .f32)
    (j : Fin 4) (d : Fin 128) (k : Fin 512) : w1A (F := Ideal) W M S G (ix3 j d k)
      = W (ix3 j d k) * (G (ix3 j 0 k) * Ideal.rsqrt (∑ x, (∑ y, S (ix3 j x y) * Named.named (F := Ideal) κ "inv_n" (φ := .f32) 953267991#32 * W (ix3 j y k)) * W (ix3 j x k)
          - (∑ x, M (ix3 j 0 x) * Named.named (F := Ideal) κ "inv_n" (φ := .f32) 953267991#32 * W (ix3 j x k))
            * (∑ x, M (ix3 j 0 x) * Named.named (F := Ideal) κ "inv_n" (φ := .f32) 953267991#32 * W (ix3 j x k)) + Ideal.ofBits .f32 925353388#32)) := by
  pointwise [w1A, stack, slab, w1P, k0_pay25, k0_pay24, k0_pay21, k0_pay22, k0_pay20, k0_pay19]

/-- A row of the second layer. -/
theorem h2A_at (x : Fin 4 → FVec Ideal S1000x128 .f32) (w : FVec Ideal S4x128x512 .bf16) (c : FVec Ideal S4x1x512 .bf16)
    (W2 : FVec Ideal S4x512x512 .bf16) (j : Fin 4) (i : Fin 1000) (k : Fin 512) :
    h2A (F := Ideal) x w c W2 j (ix4 0 0 i k)
      = ∑ l : Fin 512, max (∑ d : Fin 128, x j (ix2 i d) * w (ix3 j d l) + c (ix3 j 0 l)) 0 * W2 (ix3 j l k) := by
  pointwise [h2A, k0_pay44, k0_pay43, slab]

/-- The second layer's sums start from zero. -/
theorem k0_pay10_at (i : S4x2x512.Idx) : k0_pay10 (F := Ideal) i = 0 := by
  pointwise [k0_pay10]

/-- The second layer's running sums, one block more, -/
theorem stN_at0 (x : Fin 4 → FVec Ideal S1000x128 .f32) (w : FVec Ideal S4x128x512 .bf16) (c : FVec Ideal S4x1x512 .bf16)
    (W2 : FVec Ideal S4x512x512 .bf16) (st : FVec Ideal S4x2x512 .f32) (j : Fin 4) (k : Fin 512) :
    stN (F := Ideal) x w c W2 st (ix3 j 0 k) = st (ix3 j 0 k) + ∑ i : Fin 1000, h2A (F := Ideal) x w c W2 j (ix4 0 0 i k) := by
  simp only [h2A_at]
  pointwise [stN, k0_pay11, slab, k0_pay43, k0_pay45, k0_pay54, k0_pay56]
  fin_cases j <;> simp

/-- and the running sums of squares. -/
theorem stN_at1 (x : Fin 4 → FVec Ideal S1000x128 .f32) (w : FVec Ideal S4x128x512 .bf16) (c : FVec Ideal S4x1x512 .bf16)
    (W2 : FVec Ideal S4x512x512 .bf16) (st : FVec Ideal S4x2x512 .f32) (j : Fin 4) (k : Fin 512) :
    stN (F := Ideal) x w c W2 st (ix3 j 1 k)
      = st (ix3 j 1 k) + ∑ i : Fin 1000, h2A (F := Ideal) x w c W2 j (ix4 0 0 i k) * h2A (F := Ideal) x w c W2 j (ix4 0 0 i k) := by
  simp only [h2A_at]
  pointwise [stN, k0_pay11, slab, k0_pay43, k0_pay45, k0_pay54, k0_pay56]
  fin_cases j <;> simp

/-- The second normalisation's offsets. -/
theorem c2A_at (st : FVec Ideal S4x2x512 .f32) (G B : FVec Ideal S4x1x512 .f32) (j : Fin 4) (k : Fin 512) :
    c2A (F := Ideal) st G B (ix3 j 0 k)
      = Ideal.div (B (ix3 j 0 k) - st (ix3 j 0 k) * Named.named (F := Ideal) κ "inv_n" (φ := .f32) 953267991#32 * (G (ix3 j 0 k) * Ideal.rsqrt (st (ix3 j 1 k) * Named.named (F := Ideal) κ "inv_n" (φ := .f32) 953267991#32
          - st (ix3 j 0 k) * Named.named (F := Ideal) κ "inv_n" (φ := .f32) 953267991#32 * (st (ix3 j 0 k) * Named.named (F := Ideal) κ "inv_n" (φ := .f32) 953267991#32) + Ideal.ofBits .f32 925353388#32)))
        (G (ix3 j 0 k) * Ideal.rsqrt (st (ix3 j 1 k) * Named.named (F := Ideal) κ "inv_n" (φ := .f32) 953267991#32
          - st (ix3 j 0 k) * Named.named (F := Ideal) κ "inv_n" (φ := .f32) 953267991#32 * (st (ix3 j 0 k) * Named.named (F := Ideal) κ "inv_n" (φ := .f32) 953267991#32) + Ideal.ofBits .f32 925353388#32)) := by
  pointwise [c2A, k0_pay15, slab, stack, k0_pay13, k0_pay14, k0_pay12]

/-- The folded output weights. -/
theorem wcA_at (Wf1 : FVec Ideal S2048x512 .bf16) (Wfc : FVec Ideal S4x512x512 .bf16) (st : FVec Ideal S4x2x512 .f32) (G : FVec Ideal S4x1x512 .f32)
    (j : Fin 4) (l k : Fin 512) : wcA (F := Ideal) Wf1 Wfc st G (ix2 ⟨j.val * 512 + l.val, by omega⟩ k)
      = (∑ x : Fin 512, Wfc (ix3 j l x) * Wf1 (ix2 ⟨j.val * 512 + x.val, by omega⟩ k))
        * (G (ix3 j 0 l) * Ideal.rsqrt (st (ix3 j 1 l) * Named.named (F := Ideal) κ "inv_n" (φ := .f32) 953267991#32
          - st (ix3 j 0 l) * Named.named (F := Ideal) κ "inv_n" (φ := .f32) 953267991#32 * (st (ix3 j 0 l) * Named.named (F := Ideal) κ "inv_n" (φ := .f32) 953267991#32) + Ideal.ofBits .f32 925353388#32)) := by
  have e1 : (j.val * 512 + l.val) / 512 = j.val := by omega
  have e2 : (j.val * 512 + l.val) % 512 = l.val := by omega
  pointwise [wcA, rowBlk, rows4, slab, k0_pay58, k0_pay62, k0_pay65, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90]
  simp only [e1, e2, Fin.eta, Nat.mul_comm 512]

/-- The folded output offset. -/
theorem bcA_at (bf1 : FVec Ideal S1x512 .f32) (Wf1 : FVec Ideal S2048x512 .bf16) (bfc : FVec Ideal S4x1x512 .f32) (k : Fin 512) :
    bcA (F := Ideal) bf1 Wf1 bfc (ix2 0 k)
      = bf1 (ix2 0 k) + ∑ j : Fin 4, ∑ x : Fin 512, bfc (ix3 j 0 x) * Wf1 (ix2 ⟨j.val * 512 + x.val, by omega⟩ k) := by
  simp only [Fin.sum_univ_four]
  pointwise [bcA, rowBlk, rows4, slab, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay17]
  simp [add_assoc]

/-- A row of the results. -/
theorem outB_at (h : Fin 4 → FVec Ideal S1x1x1000x512 .bf16) (c2 : FVec Ideal S4x1x512 .bf16) (wc : FVec Ideal S2048x512 .bf16)
    (bc : FVec Ideal S1x512 .bf16) (Wf2 : FVec Ideal S512x128 .bf16) (bf2 : FVec Ideal S1x128 .f32) (i : Fin 1000) (o : Fin 128) :
    outB (F := Ideal) h c2 wc bc Wf2 bf2 (ix2 i o)
      = ∑ k : Fin 512, max ((∑ j : Fin 4, ∑ l : Fin 512, max (h j (ix4 0 0 i l) + c2 (ix3 j 0 l)) 0 * wc (ix2 ⟨j.val * 512 + l.val, by omega⟩ k))
          + bc (ix2 0 k)) 0 * Wf2 (ix2 k o) + bf2 (ix2 0 o) := by
  have tl : ∀ f : Fin 2048 → EReal, ∑ l, f l = ∑ j : Fin 4, ∑ t : Fin 512, f ⟨j.val * 512 + t.val, by omega⟩ :=
    fun f => Fin.sum_univ_tiles 4 512 rfl f
  pointwise [outB, slab, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay18]
  simp only [tl]
  refine congrArg (· + bf2 (ix2 0 o)) (Finset.sum_congr rfl fun k _ => congrArg (fun z => max (z + bc (ix2 0 k)) 0 * Wf2 (ix2 k o))
    (Finset.sum_congr rfl fun j _ => Finset.sum_congr rfl fun l _ => congrArg (· * wc (ix2 ⟨j.val * 512 + l.val, by omega⟩ k)) ?_))
  exact Cert.Fold.ladder (fun j l => max (h j (ix4 0 0 i l) + c2 (ix3 j 0 l)) 0) j l

end Cert.KernelIdeal.Mega
end
-- ==== Proof.KernelIdeal.Value.lean ====
/-
  What the kernel's buffers hold when its arrays are those of the problem: real means and variances, folded weights,
  and at the end the problem's result.
-/
module

public import proofs.«01_k».proof.Proof.KernelIdeal.Closed

@[expose] public section
set_option maxRecDepth 16384
noncomputable section
namespace Cert.KernelIdeal.Mega
open Cert.KernelIdeal.Gen Cert.Mega Cert.Fold
open Idealize.ShloMosaic Idealize.ShloMosaic.TcCoe Idealize.SL.Sem

variable (m : (ℓ : Loc nD τ sig) → Buf (Elt Ideal) ℓ) (c : Dev nD) (D : Data)

/-- The kernel's operands are the problem's arrays. -/
structure Holds : Prop where
  x : ∀ l j r d, xb m c l j (ix2 r d) = ((D.X j (row l r) d : ℝ) : EReal)
  w1 : ∀ j d k, kW1 m c (ix3 j d k) = ((D.W1 j d k : ℝ) : EReal)
  g1 : ∀ j k, kG1 m c (ix3 j 0 k) = ((D.g1 j k : ℝ) : EReal)
  e1 : ∀ j k, kB1 m c (ix3 j 0 k) = D.e1 j k
  w2 : ∀ j l k, kW2 m c (ix3 j l k) = ((D.W2 j l k : ℝ) : EReal)
  g2 : ∀ j k, kG2 m c (ix3 j 0 k) = ((D.g2 j k : ℝ) : EReal)
  e2 : ∀ j k, kB2 m c (ix3 j 0 k) = D.e2 j k
  fc : ∀ j l x, kFc m c (ix3 j l x) = ((D.Fc j l x : ℝ) : EReal)
  bc : ∀ j x, kbc m c (ix3 j 0 x) = D.bc j x
  F1 : ∀ (j : Fin 4) (x k : Fin 512), kF1 m c (ix2 ⟨j.val * 512 + x.val, by omega⟩ k) = ((D.F1 j x k : ℝ) : EReal)
  f1 : ∀ k, kb1 m c (ix2 0 k) = D.f1 k
  F2 : ∀ k o, kF2 m c (ix2 k o) = D.F2 k o
  f2 : ∀ o, kb2 m c (ix2 0 o) = D.f2 o

/-- The named constant is one over the number of rows. -/
theorem inv_n : Named.named (F := Ideal) κ "inv_n" (φ := .f32) 953267991#32 = ((10000⁻¹ : ℝ) : EReal) :=
  IdealRules.named_const.ideal_named_scalar _ _ _ _ rfl

variable {m c D} (h : Holds m c D)
include h

/-- The sums of rows over the blocks up to `n`, -/
theorem mAcc_upto (n : ℕ) (j : Fin 4) (d : Fin 128) :
    mAcc m c n (ix3 j 0 d) = ((∑ l ∈ Finset.range (n + 1), ∑ r, D.X j (row l r) d : ℝ) : EReal) := by
  induction n with
  | zero => simp only [mAcc, mFst_at, h.x, ← coe_sum, zero_add, Finset.range_one, Finset.sum_singleton]
  | succ n ih => rw [mAcc, mNxt_at, ih, Finset.sum_range_succ _ (n + 1)]; simp only [h.x, ← coe_sum, ← EReal.coe_add]

/-- and over all rows. -/
theorem mAcc_at (j : Fin 4) (d : Fin 128) : mAcc m c 9 (ix3 j 0 d) = ((∑ i, D.X j i d : ℝ) : EReal) := by
  rw [mAcc_upto h, sum_rows fun i => D.X j i d]

/-- The sums of products over the blocks up to `n`, -/
theorem sAcc_upto (n : ℕ) (j : Fin 4) (d e : Fin 128) :
    sAcc m c n (ix3 j d e) = ((∑ l ∈ Finset.range (n + 1), ∑ r, D.X j (row l r) d * D.X j (row l r) e : ℝ) : EReal) := by
  induction n with
  | zero => simp only [sAcc, sFst_at, h.x, ← EReal.coe_mul, ← coe_sum, zero_add, Finset.range_one, Finset.sum_singleton]
  | succ n ih => rw [sAcc, sNxt_at, ih, Finset.sum_range_succ _ (n + 1)]; simp only [h.x, ← EReal.coe_mul, ← coe_sum, ← EReal.coe_add]

/-- and over all rows. -/
theorem sAcc_at (j : Fin 4) (d e : Fin 128) : sAcc m c 9 (ix3 j d e) = ((∑ i, D.X j i d * D.X j i e : ℝ) : EReal) := by
  rw [sAcc_upto h, sum_rows fun i => D.X j i d * D.X j i e]

/-- The first layer's folded weights. -/
theorem w1V_at (j : Fin 4) (d : Fin 128) (k : Fin 512) :
    w1V m c (ix3 j d k) = ((D.W1 j d k * scl (D.g1 j k) (D.L1 j k) : ℝ) : EReal) := by
  rw [w1V, w1A_at _ _ _ _ (kB1 m c)]
  simp only [h.w1, h.g1, mAcc_at h, sAcc_at h, inv_n, ofBits_eps, ← EReal.coe_mul, ← coe_sum, ← EReal.coe_sub, ← EReal.coe_add]
  rw [vari_lin (D.X j) (fun d => D.W1 j d k), rsqrt_pos (den_pos _)]
  simp only [← EReal.coe_mul]; rfl

/-- The first layer's folded offsets. -/
theorem c1V_at (j : Fin 4) (k : Fin 512) :
    c1V m c (ix3 j 0 k) = D.e1 j k - ((mean (D.L1 j k) * scl (D.g1 j k) (D.L1 j k) : ℝ) : EReal) := by
  rw [c1V, c1A_at]
  simp only [h.w1, h.g1, h.e1, mAcc_at h, sAcc_at h, inv_n, ofBits_eps, ← EReal.coe_mul, ← coe_sum, ← EReal.coe_sub, ← EReal.coe_add]
  rw [vari_lin (D.X j) (fun d => D.W1 j d k), mean_lin (D.X j) (fun d => D.W1 j d k), rsqrt_pos (den_pos _)]
  simp only [← EReal.coe_mul]; rfl

/-- The second layer's rows. -/
theorem h2V_at (l : ℕ) (j : Fin 4) (r : Fin 1000) (k : Fin 512) :
    h2V m c l j (ix4 0 0 r k) = ((D.L2 j k (row l r) : ℝ) : EReal) := by
  rw [h2V, h2A_at]
  simp only [h.x, h.w2, w1V_at h, c1V_at h, ← EReal.coe_mul, ← coe_sum]
  unfold Data.L2
  rw [coe_sum]
  refine Finset.sum_congr rfl fun q _ => ?_
  rw [EReal.coe_mul]
  exact congrArg (· * (D.W2 j q k : EReal)) (nrm_lin (D.X j) (fun d => D.W1 j d q) (D.g1 j q) (D.lt1 j q) (row l r))

/-- The second layer's sums up to block `n`, -/
theorem st0_upto (n : ℕ) (j : Fin 4) (k : Fin 512) :
    stAcc m c n (ix3 j 0 k) = ((∑ l ∈ Finset.range (n + 1), ∑ r, D.L2 j k (row l r) : ℝ) : EReal) := by
  induction n with
  | zero =>
    rw [stAcc, stN_at0, k0_pay10_at, zero_add, zero_add, Finset.range_one, Finset.sum_singleton, coe_sum]
    exact Finset.sum_congr rfl fun r _ => h2V_at h 0 j r k
  | succ n ih =>
    rw [stAcc, stN_at0, ih, Finset.sum_range_succ _ (n + 1), EReal.coe_add, coe_sum _ fun r => D.L2 j k (row (n + 1) r)]
    exact congrArg _ (Finset.sum_congr rfl fun r _ => h2V_at h (n + 1) j r k)

/-- its sums of squares up to block `n`, -/
theorem st1_upto (n : ℕ) (j : Fin 4) (k : Fin 512) :
    stAcc m c n (ix3 j 1 k) = ((∑ l ∈ Finset.range (n + 1), ∑ r, D.L2 j k (row l r) * D.L2 j k (row l r) : ℝ) : EReal) := by
  have e : ∀ l r, h2A (F := Ideal) (xb m c l) (w1V m c) (c1V m c) (kW2 m c) j (ix4 0 0 r k)
      * h2A (F := Ideal) (xb m c l) (w1V m c) (c1V m c) (kW2 m c) j (ix4 0 0 r k)
      = ((D.L2 j k (row l r) * D.L2 j k (row l r) : ℝ) : EReal) := fun l r => by
    rw [EReal.coe_mul, ← h2V_at h l j r k]; rfl
  induction n with
  | zero =>
    rw [stAcc, stN_at1, k0_pay10_at, zero_add, zero_add, Finset.range_one, Finset.sum_singleton, coe_sum]
    exact Finset.sum_congr rfl fun r _ => e 0 r
  | succ n ih =>
    rw [stAcc, stN_at1, ih, Finset.sum_range_succ _ (n + 1), EReal.coe_add, coe_sum _ fun r => D.L2 j k (row (n + 1) r) * D.L2 j k (row (n + 1) r)]
    exact congrArg _ (Finset.sum_congr rfl fun r _ => e (n + 1) r)

/-- the mean of the second layer's column, -/
theorem st0_at (j : Fin 4) (k : Fin 512) :
    stAcc m c 9 (ix3 j 0 k) * Named.named (F := Ideal) κ "inv_n" (φ := .f32) 953267991#32 = ((mean (D.L2 j k) : ℝ) : EReal) := by
  rw [st0_upto h, sum_rows (D.L2 j k), inv_n, ← EReal.coe_mul]; rfl

/-- and its scale. -/
theorem scl_at (j : Fin 4) (k : Fin 512) :
    kG2 m c (ix3 j 0 k) * Ideal.rsqrt (stAcc m c 9 (ix3 j 1 k) * Named.named (F := Ideal) κ "inv_n" (φ := .f32) 953267991#32
          - stAcc m c 9 (ix3 j 0 k) * Named.named (F := Ideal) κ "inv_n" (φ := .f32) 953267991#32
            * (stAcc m c 9 (ix3 j 0 k) * Named.named (F := Ideal) κ "inv_n" (φ := .f32) 953267991#32) + Ideal.ofBits .f32 925353388#32)
      = ((scl (D.g2 j k) (D.L2 j k) : ℝ) : EReal) := by
  rw [st0_at h, st1_upto h, sum_rows (fun i => D.L2 j k i * D.L2 j k i), inv_n, h.g2, ofBits_eps]
  simp only [← EReal.coe_mul, ← EReal.coe_sub, ← EReal.coe_add]
  rw [← vari_eq, rsqrt_pos (den_pos _), ← EReal.coe_mul]; rfl

/-- The second normalisation's offsets. -/
theorem c2V_at (j : Fin 4) (k : Fin 512) :
    c2V m c (ix3 j 0 k)
      = (D.e2 j k - ((mean (D.L2 j k) * scl (D.g2 j k) (D.L2 j k) : ℝ) : EReal)) * ((1 / scl (D.g2 j k) (D.L2 j k) : ℝ) : EReal) := by
  rw [c2V, c2A_at, scl_at h, st0_at h, h.e2, Ideal.div_coe (scl_pos (D.pos j k) _).ne', ← EReal.coe_mul]

/-- The folded output weights. -/
theorem wcV_at (j : Fin 4) (l k : Fin 512) :
    wcV m c (ix2 ⟨j.val * 512 + l.val, by omega⟩ k)
      = (((∑ x, D.Fc j l x * D.F1 j x k) * scl (D.g2 j l) (D.L2 j l) : ℝ) : EReal) := by
  rw [wcV, wcA_at, scl_at h]
  simp only [h.fc, h.F1, ← EReal.coe_mul, ← coe_sum]

/-- The folded output offset. -/
theorem bcV_at (k : Fin 512) : bcV m c (ix2 0 k) = D.Q k := by
  rw [bcV, bcA_at]
  simp only [h.f1, h.bc, h.F1]; rfl

/-- The results. -/
theorem outV_at (l : ℕ) (r : Fin 1000) (o : Fin 128) : outV m c l (ix2 r o) = D.out (row l r) o := by
  rw [outV, outB_at]
  simp only [h.F2, h.f2, bcV_at h, h2V_at h, c2V_at h, wcV_at h]
  unfold Data.out
  refine congrArg (· + D.f2 o) (Finset.sum_congr rfl fun k _ => congrArg (fun z => max (z + D.Q k) 0 * D.F2 k o)
    (Finset.sum_congr rfl fun j _ => ?_))
  rw [Data.P, coe_sum]
  exact Finset.sum_congr rfl fun q _ => nrm_scl (D.pos j q) (D.lt2 j q) (D.L2 j q) (row l r) _

end Cert.KernelIdeal.Mega
end
-- ==== Proof.Tame.lean ====
/-
  What the precondition says of the kernel's arguments: finite entries, positive second scales, and offsets below infinity.
-/
module

public import proofs.«01_k».proof.Defs
public import proofs.«01_k».proof.Proof.Reals
public import Idealize.ShloMosaic.Lib.Pointwise

@[expose] public section
set_option maxRecDepth 16384
noncomputable section
namespace Cert.Tame
open Cert.Fold
open Idealize.ShloMosaic Idealize.ShloMosaic.TcCoe Idealize.SL.Sem

/-- The precondition's side conditions. -/
instance facts : Cert.Pre_tame.Facts where
  bcast_S_S10000x128 := by decide
  bcast_S_S4x128x512 := by decide
  bcast_S_S4x512 := by decide
  bcast_S_S4x512x512 := by decide
  bcast_S_S2048x512 := by decide

variable (m : (ℓ : Loc Cert.KernelIdeal.nD Cert.KernelIdeal.τ Cert.KernelIdeal.sig) → Buf (Elt Ideal) ℓ) (c : Dev Cert.KernelIdeal.nD)

/-- One of the kernel's arguments. -/
abbrev arg (b : Ref Cert.KernelIdeal.sig .tc) := m ((c.tc : Thread Cert.KernelIdeal.nD Cert.KernelIdeal.τ).loc b)

open Cert.KernelIdeal in
/-- The kernel's arguments. -/
def args : Arrays :=
  ⟨![arg m c main_arg0, arg m c main_arg1, arg m c main_arg2, arg m c main_arg3], arg m c main_arg12, arg m c main_arg13, arg m c main_arg14,
    arg m c main_arg15, arg m c main_arg16, arg m c main_arg17, arg m c main_arg18, arg m c main_arg19, arg m c main_arg20, arg m c main_arg21,
    arg m c main_arg22, arg m c main_arg23, arg m c main_arg24, arg m c main_arg25⟩

/-- The constant that the precondition compares with is infinity. -/
theorem ofBits_inf : Ideal.ofBits .f32 0x7F800000#32 = ⊤ := by
  simp [Ideal.ofBits, Ideal.ieee]

/-- A comparison of an array's absolute values with infinity, true at every place, makes the array finite. -/
theorem finite_of {s : Shape} (a : FVec Ideal s .f32) (hb : (⟨0, ![]⟩ : Shape).BroadcastsInDim s (![] : Fin 0 → Fin s.rank))
    (h : cmpf .olt (Host.absf a) (broadcastInDim s ![] hb (constant (F := Ideal) ⟨0, ![]⟩ .f32 0x7F800000#32)) = fun _ => 1#1) (i : s.Idx) :
    Finite (a i) := by
  have h := congrFun h i
  pointwise at h
  have h' : FloatOps.absf (F := Ideal) (a i) < Ideal.ofBits .f32 0x7F800000#32 := by
    by_contra hc
    rw [decide_eq_false hc] at h
    exact absurd h (by decide)
  rw [ofBits_inf] at h'
  exact h'

/-- A comparison of an array with infinity, true at every place, puts it below infinity. -/
theorem lt_top_of {s : Shape} (a : FVec Ideal s .f32) (hb : (⟨0, ![]⟩ : Shape).BroadcastsInDim s (![] : Fin 0 → Fin s.rank))
    (h : cmpf .olt a (broadcastInDim s ![] hb (constant (F := Ideal) ⟨0, ![]⟩ .f32 0x7F800000#32)) = fun _ => 1#1) (i : s.Idx) :
    a i < ⊤ := by
  have h := congrFun h i
  pointwise at h
  rw [← ofBits_inf]
  by_contra hc
  rw [decide_eq_false hc] at h
  exact absurd h (by decide)

/-- A comparison of an array with zero, true at every place, makes it positive. -/
theorem pos_of {s : Shape} (a : FVec Ideal s .f32) (hb : (⟨0, ![]⟩ : Shape).BroadcastsInDim s (![] : Fin 0 → Fin s.rank))
    (h : cmpf .ogt a (broadcastInDim s ![] hb (constant (F := Ideal) ⟨0, ![]⟩ .f32 0x00000000#32)) = fun _ => 1#1) (i : s.Idx) :
    0 < a i := by
  have h := congrFun h i
  pointwise at h
  by_contra hc
  rw [decide_eq_false hc] at h
  exact absurd h (by decide)

/-- The precondition makes the arguments tame. -/
theorem args_tame (h : Cert.Pre_KernelIdeal_tame m) : (args m c).Tame := by
  obtain ⟨h0, h1, h2, h3, h12, h13, h14, h16, h17, h18, h20, h22, h15, h19, hp⟩ := h c
  exact
   { x := fun j => match j with
       | 0 => finite_of _ _ h0
       | 1 => finite_of _ _ h1
       | 2 => finite_of _ _ h2
       | 3 => finite_of _ _ h3
     w1 := finite_of _ _ h12
     b1 := finite_of _ _ h13
     g1 := finite_of _ _ h14
     e1 := lt_top_of _ _ h15
     w2 := finite_of _ _ h16
     b2 := finite_of _ _ h17
     g2 := finite_of _ _ h18
     e2 := lt_top_of _ _ h19
     fc := finite_of _ _ h20
     F1 := finite_of _ _ h22
     pos := pos_of _ _ hp }

end Cert.Tame
end
-- ==== Proof.KernelIdeal.Result.lean ====
/-
  The kernel's array of results: the problem's result, when its arguments hold the data.
-/
module

public import proofs.«01_k».proof.Proof.KernelIdeal.Value
public import proofs.«01_k».proof.Proof.KernelIdeal.Body
public import proofs.«01_k».proof.Proof.Tame

@[expose] public section
set_option maxRecDepth 16384
noncomputable section
namespace Cert.KernelIdeal.Mega
open Cert.KernelIdeal.Gen Cert.Mega Cert.Fold
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (c : Dev nD) (D : Data)

/-- The array of results. -/
def resV : FVec Ideal S10000x128 .f32 := fun i => outV m c ((i 0).val / 1000) (ix2 ⟨(i 0).val % 1000, Nat.mod_lt _ (by decide)⟩ (i 1))

/-- What the kernel leaves in the array of results. -/
theorem arr_res : (dats m 0 c).arrAt 16 (cfgs 0).N = resV m c := by
  refine (dats m 0 c).arrAt_eq_of_covers 16 _ (by decide +kernel) fun t hf y => ?_
  have ht : 20 ≤ t.val := by have := flush_16 t; rw [hf] at this; exact of_decide_eq_true this.symm
  have hN : t.val < 30 := lt_of_lt_of_eq t.isLt N_0
  blk_simp
  rw [after0_16]
  unfold resV
  blk_simp [idx_16 t]
  have hy : (y 0).val < 1000 := (y 0).isLt
  have e0 : (if t.val < 20 then 0 else t.val - 20) = t.val - 20 := if_neg (by omega)
  have e1 : ((if t.val < 20 then 0 else t.val - 20) * 1000 + (y 0).val) / 1000 = t.val - 20 := by rw [e0]; omega
  rw [e1]
  refine congrArg (outV m c (t.val - 20)) (funext fun a => Fin.ext ?_)
  match a with
  | 0 => show (y 0).val = ((if t.val < 20 then 0 else t.val - 20) * 1000 + (y 0).val) % 1000; rw [e0]; omega
  | 1 => show (y 1).val = ((win0_16.blk t).view.emb y 1).val; blk_simp [idx_16 t]

variable {m c D}

/-- Each operand is its argument. -/
theorem Holds.of (h : (Tame.args m c).Is D) : Holds m c D where
  x l j r d := by
    match j with
    | 0 => exact h.x 0 (row l r) d
    | 1 => exact h.x 1 (row l r) d
    | 2 => exact h.x 2 (row l r) d
    | 3 => exact h.x 3 (row l r) d
  w1 j d k := by rw [← h.w1]; show V m c main_v0 (ix3 j d k) = _; entry_read; pointwise; rfl
  g1 j k := by rw [← h.g1]; show V m c main_v1 (ix3 j 0 k) = _; entry_read; pointwise; rfl
  e1 j k := by rw [← h.e1]; show V m c main_v2 (ix3 j 0 k) = _; entry_read; pointwise; rfl
  w2 j l k := by rw [← h.w2]; show V m c main_v3 (ix3 j l k) = _; entry_read; pointwise; rfl
  g2 j k := by rw [← h.g2]; show V m c main_v4 (ix3 j 0 k) = _; entry_read; pointwise; rfl
  e2 j k := by rw [← h.e2]; show V m c main_v5 (ix3 j 0 k) = _; entry_read; pointwise; rfl
  fc j l x := by rw [← h.fc]; show V m c main_v6 (ix3 j l x) = _; entry_read; pointwise; rfl
  bc j x := by rw [← h.bc]; show V m c main_v8 (ix3 j 0 x) = _; entry_read; pointwise; rfl
  F1 j x k := by rw [← h.F1]; show V m c main_v7 (ix2 ⟨j.val * 512 + x.val, by omega⟩ k) = _; entry_read; pointwise; rfl
  f1 k := by rw [← h.f1]; show V m c main_v9 (ix2 0 k) = _; entry_read; pointwise; rfl
  F2 k o := by rw [← h.F2]; show V m c main_v10 (ix2 k o) = _; entry_read; pointwise; rfl
  f2 o := by rw [← h.f2]; show V m c main_v11 (ix2 0 o) = _; entry_read; pointwise; rfl

/-- The array of results is the problem's result. -/
theorem resV_at (h : (Tame.args m c).Is D) (i : S10000x128.Idx) : resV m c i = D.out (i 0) (i 1) := by
  unfold resV
  refine (outV_at (Holds.of h) _ _ (i 1)).trans (congrArg (fun q => D.out q (i 1)) ?_)
  have hi : (i 0).val < 10000 := (i 0).isLt
  refine Fin.ext ?_
  show (1000 * ((i 0).val / 1000) + (i 0).val % 1000) % 10000 = (i 0).val
  omega

end Cert.KernelIdeal.Mega
end
-- ==== Proof.Algebraic.lean ====
/-
  On the extended reals the kernel and the reference compute the same results.
-/
module

public import proofs.«01_k».proof.Proof.Frames
public import proofs.«01_k».proof.Proof.RefValue
public import proofs.«01_k».proof.Proof.KernelIdeal.Result

@[expose] public section

set_option maxRecDepth 16384

noncomputable section

namespace Cert.Proof

open Idealize.ShloMosaic Idealize.SL.Sem Cert.Fold

/-- The kernel ends with the array of results, and its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD, r.2.mem ((c.tc : Thread Cert.KernelIdeal.nD Cert.KernelIdeal.τ).loc Cert.KernelIdeal.main_v12)
        = Cert.KernelIdeal.Mega.resV m c) :=
  (θ_run _ _ _).mono (fun _ h c => (h.1.out_eq c 16).trans (Cert.KernelIdeal.Mega.arr_res m c)) (Cert.KernelIdeal.Mega.run_main m ρ)

/-- Given the same arrays, the reference's results are the kernel's. -/
theorem results_agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (c : Dev Cert.KernelIdeal.nD) (D : Data) (h : (Cert.Tame.args m c).Is D)
    (e : Cert.ReferenceIdeal.Value.args (StableHlo.launchContents m' c) = Cert.Tame.args m c) (i : Cert.KernelIdeal.S10000x128.Idx) :
    Cert.ReferenceIdeal.Value.res (StableHlo.launchContents m' c) i = Cert.KernelIdeal.Mega.resV m c i := by
  rw [Cert.KernelIdeal.Mega.resV_at h]
  have hi : i = ix2 (i 0) (i 1) := eq_ix2 i
  rw [← e] at h
  exact (congrArg _ hi).trans (Cert.ReferenceIdeal.Value.res_eq (Cert.ReferenceIdeal.Value.Holds.of h) (i 0) (i 1))

/-- The two programs' results are equal. -/
theorem algebraic : Cert.algebraic_KernelIdeal_ReferenceIdeal_pre_tame := fun m ρ m' ρ' hpre hag => by
  have hres : ∀ c : Dev Cert.KernelIdeal.nD, Cert.ReferenceIdeal.Value.res (StableHlo.launchContents m' c) = Cert.KernelIdeal.Mega.resV m c := fun c => by
    obtain ⟨D, hD⟩ := (Cert.Tame.args_tame m c hpre).data
    obtain ⟨h0, h1, h2, h3, -, -, -, -, -, -, -, -, h12, h13, h14, h15, h16, h17, h18, h19, h20, h21, h22, h23, h24, h25⟩ := hag c
    refine funext fun i => results_agree c D hD ?_ i
    unfold Cert.ReferenceIdeal.Value.args Cert.Tame.args Cert.ReferenceIdeal.Value.aX
    unfold Cert.Tame.arg
    rw [← h0, ← h1, ← h2, ← h3, ← h12, ← h13, ← h14, ← h15, ← h16, ← h17, ← h18, ← h19, ← h20, ← h21, ← h22, ← h23, ← h24, ← h25]
  refine ⟨fun c => Cert.KernelIdeal.Mega.resV m c, ?_, ?_⟩
  · exact (θ_run _ _ _).mono (fun r h c => ⟨h.1 c, h.2.1 c⟩) (θ_run_and (kernel_run m ρ) (frame_pi m ρ trivial))
  · exact (θ_run _ _ _).mono (fun r h c => ⟨((h c).1).trans (hres c), (h c).2⟩) (Cert.ReferenceIdeal.Value.run (F := Ideal) m' ρ')

end Cert.Proof

end
-- ==== Proof.lean ====
/- The claims about the kernel, assembled: the frames of the three programs, the named constant, and the equality of
   the kernel's results with the reference's on the extended reals. -/
module

public import proofs.«01_k».proof.Defs
public import proofs.«01_k».proof.Proof.Algebraic
public import Idealize.ShloMosaic.Adequacy
public import Idealize.ShloMosaic.Init

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts, Cert.Tame.facts, frame_p, frame_pi,
    fun m ρ _ => frame_pi m ρ trivial, frame_ri, fun m ρ _ => frame_ri m ρ trivial, preserves, algebraic⟩

end Cert.Proof

end
